-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def preserves_Fox_FoxIdeal : Prop :=
  IdealRules.named_const.Statement Cert.FoxIdeal.κ "mask" .f32 0xF149F2CA#32 ⊥
  ∧ IdealRules.named_const.Statement Cert.FoxIdeal.κ "log2e" .f32 0x3FB8AA3B#32 (((Real.log 2)⁻¹ : ℝ) : EReal)

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v9)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v9) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v37) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v9) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v8) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v2)) (v2 : (c : Dev Cert.UpIdeal.nD) → Buf (Elt Ideal) ((c.tc : Thread Cert.UpIdeal.nD Cert.UpIdeal.τ).loc Cert.UpIdeal.main_v3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v2) = v1 c
          ∧ r.2.mem ((c.tc : Thread Cert.UpIdeal.nD Cert.UpIdeal.τ).loc Cert.UpIdeal.main_v3) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v38) = v0 c
          ∧ r.2.mem ((c.tc : Thread Cert.UpRefIdeal.nD Cert.UpRefIdeal.τ).loc Cert.UpRefIdeal.main_v39) = v1 c
          ∧ r.2.mem ((c.tc : Thread Cert.UpRefIdeal.nD Cert.UpRefIdeal.τ).loc Cert.UpRefIdeal.main_v40) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def Claim : Prop :=
  ∃ (hFox : Cert.Fox.Facts) (hFoxIdeal : Cert.FoxIdeal.Facts) (hFoxRefIdeal : Cert.FoxRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hUp : Cert.Up.Facts) (hUpIdeal : Cert.UpIdeal.Facts) (hUpRefIdeal : Cert.UpRefIdeal.Facts) (hPre_finite : Cert.Pre_finite.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Up (hUp := hUp)
    ∧ quiescent_UpIdeal (hUpIdeal := hUpIdeal)
    ∧ quiescent_UpRefIdeal (hUpRefIdeal := hUpRefIdeal)
    ∧ preserves_Fox_FoxIdeal
    ∧ algebraic_FoxIdeal_FoxRefIdeal_pre_finite (hFoxIdeal := hFoxIdeal) (hFoxRefIdeal := hFoxRefIdeal) (hPre_finite := hPre_finite)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Up_UpIdeal
    ∧ algebraic_UpIdeal_UpRefIdeal (hUpIdeal := hUpIdeal) (hUpRefIdeal := hUpRefIdeal)
-- ==== Pre_finite.lean ====
abbrev S8192x2048 : Shape := ⟨2, ![8192, 2048]⟩
abbrev S8192x512 : Shape := ⟨2, ![8192, 512]⟩
abbrev S2x16x4096 : Shape := ⟨3, ![2, 16, 4096]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S2x16x4096 : S_.BroadcastsInDim S2x16x4096 (![] : Fin 0 → Fin S2x16x4096.rank)
  reducesTo_S2x16x4096_S_d0_1_2 : S2x16x4096.ReducesTo [0, 1, 2] S_

variable [Facts]

def fn_part1 {F : FTy → Type} [FloatOps F] (main_v13 : IVec S_ 1) (main_v16 : IVec S2x16x4096 1) : IVec S_ 1 :=
  let main_c_5 : IVec S_ 1 := constantI S_ 1 1#1
  let main_v17 : IVec S_ 1 := (fun x v => Host.reduce IntOp.andi x v reducesTo_S2x16x4096_S_d0_1_2 h_S_) main_v16 main_c_5
  let main_v18 : IVec S_ 1 := andi main_v13 main_v17
  main_v18

def fn {F : FTy → Type} [FloatOps F] (main_arg0 : FVec F S8192x2048 .f32) (main_arg1 : FVec F S8192x512 .f32) (main_arg2 : FVec F S8192x512 .f32) (main_arg3 : FVec F S2x16x4096 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S2x16x4096 .f32 := Host.absf main_arg3
  let main_cst_4 : FVec F S_ .f32 := constant S_ .f32 0x7F800000#32
  let main_v15 : FVec F S2x16x4096 .f32 := broadcastInDim S2x16x4096 ![] bcast_S_S2x16x4096 main_cst_4
  let main_v16 : IVec S2x16x4096 1 := cmpf .olt main_v14 main_v15
  fn_part1 (F := F) main_v13 main_v16
-- ==== Fox.lean ====
abbrev S8192x2048 : Shape := ⟨2, ![8192, 2048]⟩
abbrev S8192x512 : Shape := ⟨2, ![8192, 512]⟩
abbrev S2x16x4096 : Shape := ⟨3, ![2, 16, 4096]⟩
abbrev S_ : Shape := ⟨0, ![]⟩
abbrev S512x2048 : Shape := ⟨2, ![512, 2048]⟩
abbrev S4096x512 : Shape := ⟨2, ![4096, 512]⟩
abbrev S1x16x4096 : Shape := ⟨3, ![1, 16, 4096]⟩
abbrev S4x2048x128 : Shape := ⟨3, ![4, 2048, 128]⟩
abbrev S1x16x128 : Shape := ⟨3, ![1, 16, 128]⟩
abbrev S16x128 : Shape := ⟨2, ![16, 128]⟩
abbrev S16x1 : Shape := ⟨2, ![16, 1]⟩
abbrev S512x512 : Shape := ⟨2, ![512, 512]⟩
abbrev S512x128 : Shape := ⟨2, ![512, 128]⟩
abbrev S2048x128 : Shape := ⟨2, ![2048, 128]⟩
abbrev S1x2048x128 : Shape := ⟨3, ![1, 2048, 128]⟩
abbrev S1x16x512 : Shape := ⟨3, ![1, 16, 512]⟩
abbrev S16x512 : Shape := ⟨2, ![16, 512]⟩
abbrev S2048x512 : Shape := ⟨2, ![2048, 512]⟩
abbrev S1x512 : Shape := ⟨2, ![1, 512]⟩
abbrev S512 : Shape := ⟨1, ![512]⟩
abbrev S512x1 : Shape := ⟨2, ![512, 1]⟩

abbrev nBuf : Space → Nat
  | .hbm => 17
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x512, .f32⟩
  | .hbm, ⟨3, _⟩ => ⟨S2x16x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .bf16⟩
  | .hbm, ⟨14, _⟩ => ⟨S8192x512, .bf16⟩
  | .hbm, ⟨15, _⟩ => ⟨S8192x512, .bf16⟩
  | .hbm, ⟨16, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S4096x512, .bf16⟩
  | .local _ .vmem, ⟨3, _⟩ => ⟨S4096x512, .bf16⟩
  | .local _ .vmem, ⟨4, _⟩ => ⟨S1x16x4096, .f32⟩
  | .local _ .vmem, ⟨5, _⟩ => ⟨S1x16x4096, .f32⟩
  | .local _ .vmem, ⟨6, _⟩ => ⟨S512x2048, .bf16⟩
  | .local _ .vmem, ⟨7, _⟩ => ⟨S512x2048, .bf16⟩
  | .local _ .vmem, ⟨8, _⟩ => ⟨S4x2048x128, .bf16⟩
  | .local _ .vmem, ⟨9, _⟩ => ⟨S4x2048x128, .f32⟩
  | .local _ .vmem, ⟨10, _⟩ => ⟨S4x2048x128, .f32⟩
  | .local _ .vmem, ⟨11, _⟩ => ⟨S4x2048x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 3 → Nat :=
  let c0 : Index := 0#32
  let c0_8 : Index := 0#32
  let arg1 : BitVec 32 := BitVec.ofNat 32 (i 1).val
  let c512_i32 : BitVec 32 := 512#32
  let v0 : BitVec 32 := Scalar.muli arg1 c512_i32
  let v1 : BitVec 32 := v0
  let v22 : Index := Scalar.indexCast v1
  ![0, 0, v22.toNat]
@[reducible] def k0_t1_loop (i : grid0.Coords) : Scf.Loop 32 :=
  let c0_i32_47 : BitVec 32 := 0#32
  let arg1 : BitVec 32 := BitVec.ofNat 32 (i 1).val
  let c512_i32 : BitVec 32 := 512#32
  let v0 : BitVec 32 := Scalar.muli arg1 c512_i32
  let v1 : BitVec 32 := v0
  let c512_i32_0 : BitVec 32 := 512#32
  let v2 : BitVec 32 := Scalar.addi v1 c512_i32_0
  let c512_i32_1 : BitVec 32 := 512#32
  let v3 : BitVec 32 := Scalar.addi v2 c512_i32_1
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_46 : BitVec 32 := 1#32
  let v88 : BitVec 32 := Scalar.subi v21 c1_i32_46
  let v89 : BitVec 32 := Scalar.subi v88 c0_i32_47
  let c1_i32_49 : BitVec 32 := 1#32
  let v91 : BitVec 32 := Scalar.divsi v89 c1_i32_49
  let v92 : BitVec 32 := Scalar.muli v91 c1_i32_49
  let v93 : BitVec 32 := Scalar.addi c0_i32_47 v92
  let c1_i32_50 : BitVec 32 := 1#32
  ⟨c0_i32_47, v93, c1_i32_50⟩
def k0_mult2 (i : grid0.Coords) (k0_t1 : Fin (k0_t1_loop i).trips) : BitVec 32 :=
  let c0_i32_47 : BitVec 32 := 0#32
  let c1_i32_50 : BitVec 32 := 1#32
  let arg11 : BitVec 32 := Scf.iv c0_i32_47 c1_i32_50 k0_t1
  let c512_i32_803 : BitVec 32 := 512#32
  let v1067 : BitVec 32 := Scalar.muli arg11 c512_i32_803
  v1067
def k0_off2 (i : grid0.Coords) (k0_t1 : Fin (k0_t1_loop i).trips) : Fin 3 → Nat :=
  let c0_804 : Index := 0#32
  let c0_805 : Index := 0#32
  let c0_i32_47 : BitVec 32 := 0#32
  let c1_i32_50 : BitVec 32 := 1#32
  let arg11 : BitVec 32 := Scf.iv c0_i32_47 c1_i32_50 k0_t1
  let c512_i32_803 : BitVec 32 := 512#32
  let v1067 : BitVec 32 := Scalar.muli arg11 c512_i32_803
  let v1068 : BitVec 32 := v1067
  let v1069 : Index := Scalar.indexCast v1068
  ![0, 0, v1069.toNat]
def k0_off3 (i : grid0.Coords) (k0_t1 : Fin (k0_t1_loop i).trips) : Fin 2 → Nat :=
  let c0_i32_47 : BitVec 32 := 0#32
  let c1_i32_50 : BitVec 32 := 1#32
  let arg11 : BitVec 32 := Scf.iv c0_i32_47 c1_i32_50 k0_t1
  let c512_i32_803 : BitVec 32 := 512#32
  let v1067 : BitVec 32 := Scalar.muli arg11 c512_i32_803
  let v1068 : BitVec 32 := v1067
  let v1081 : Index := Scalar.indexCast v1068
  let c0_807 : Index := 0#32
  ![v1081.toNat, 0]
def k0_off4 (i : grid0.Coords) (k0_t1 : Fin (k0_t1_loop i).trips) : Fin 2 → Nat :=
  let c0_i32_47 : BitVec 32 := 0#32
  let c1_i32_50 : BitVec 32 := 1#32
  let arg11 : BitVec 32 := Scf.iv c0_i32_47 c1_i32_50 k0_t1
  let c512_i32_803 : BitVec 32 := 512#32
  let v1067 : BitVec 32 := Scalar.muli arg11 c512_i32_803
  let v1068 : BitVec 32 := v1067
  let v1276 : Index := Scalar.indexCast v1068
  let c128_942 : Index := 128#32
  ![v1276.toNat, 128]
def k0_off5 (i : grid0.Coords) (k0_t1 : Fin (k0_t1_loop i).trips) : Fin 2 → Nat :=
  let c0_i32_47 : BitVec 32 := 0#32
  let c1_i32_50 : BitVec 32 := 1#32
  let arg11 : BitVec 32 := Scf.iv c0_i32_47 c1_i32_50 k0_t1
  let c512_i32_803 : BitVec 32 := 512#32
  let v1067 : BitVec 32 := Scalar.muli arg11 c512_i32_803
  let v1068 : BitVec 32 := v1067
  let v1471 : Index := Scalar.indexCast v1068
  let c256_1077 : Index := 256#32
  ![v1471.toNat, 256]
def k0_off6 (i : grid0.Coords) (k0_t1 : Fin (k0_t1_loop i).trips) : Fin 2 → Nat :=
  let c0_i32_47 : BitVec 32 := 0#32
  let c1_i32_50 : BitVec 32 := 1#32
  let arg11 : BitVec 32 := Scf.iv c0_i32_47 c1_i32_50 k0_t1
  let c512_i32_803 : BitVec 32 := 512#32
  let v1067 : BitVec 32 := Scalar.muli arg11 c512_i32_803
  let v1068 : BitVec 32 := v1067
  let v1666 : Index := Scalar.indexCast v1068
  let c384_1212 : Index := 384#32
  ![v1666.toNat, 384]
@[reducible] def k0_t2_loop (i : grid0.Coords) : Scf.Loop 32 :=
  let c0_i32_47 : BitVec 32 := 0#32
  let arg1 : BitVec 32 := BitVec.ofNat 32 (i 1).val
  let c512_i32 : BitVec 32 := 512#32
  let v0 : BitVec 32 := Scalar.muli arg1 c512_i32
  let v1 : BitVec 32 := v0
  let c512_i32_0 : BitVec 32 := 512#32
  let v2 : BitVec 32 := Scalar.addi v1 c512_i32_0
  let c512_i32_1 : BitVec 32 := 512#32
  let v3 : BitVec 32 := Scalar.addi v2 c512_i32_1
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_46 : BitVec 32 := 1#32
  let v88 : BitVec 32 := Scalar.subi v21 c1_i32_46
  let v89 : BitVec 32 := Scalar.subi v88 c0_i32_47
  let c1_i32_49 : BitVec 32 := 1#32
  let v91 : BitVec 32 := Scalar.divsi v89 c1_i32_49
  let v92 : BitVec 32 := Scalar.muli v91 c1_i32_49
  let v93 : BitVec 32 := Scalar.addi c0_i32_47 v92
  let v90 : BitVec 32 := Scalar.addi c0_i32_47 v89
  let c1_i32_51 : BitVec 32 := 1#32
  ⟨v93, v90, c1_i32_51⟩
def k0_mult3 (i : grid0.Coords) (k0_t2 : Fin (k0_t2_loop i).trips) : BitVec 32 :=
  let c0_i32_47 : BitVec 32 := 0#32
  let arg1 : BitVec 32 := BitVec.ofNat 32 (i 1).val
  let c512_i32 : BitVec 32 := 512#32
  let v0 : BitVec 32 := Scalar.muli arg1 c512_i32
  let v1 : BitVec 32 := v0
  let c512_i32_0 : BitVec 32 := 512#32
  let v2 : BitVec 32 := Scalar.addi v1 c512_i32_0
  let c512_i32_1 : BitVec 32 := 512#32
  let v3 : BitVec 32 := Scalar.addi v2 c512_i32_1
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_46 : BitVec 32 := 1#32
  let v88 : BitVec 32 := Scalar.subi v21 c1_i32_46
  let v89 : BitVec 32 := Scalar.subi v88 c0_i32_47
  let c1_i32_49 : BitVec 32 := 1#32
  let v91 : BitVec 32 := Scalar.divsi v89 c1_i32_49
  let v92 : BitVec 32 := Scalar.muli v91 c1_i32_49
  let v93 : BitVec 32 := Scalar.addi c0_i32_47 v92
  let c1_i32_51 : BitVec 32 := 1#32
  let arg11 : BitVec 32 := Scf.iv v93 c1_i32_51 k0_t2
  let c512_i32_803 : BitVec 32 := 512#32
  let v1067 : BitVec 32 := Scalar.muli arg11 c512_i32_803
  v1067
def k0_off7 (i : grid0.Coords) (k0_t2 : Fin (k0_t2_loop i).trips) : Fin 3 → Nat :=
  let c0_804 : Index := 0#32
  let c0_805 : Index := 0#32
  let c0_i32_47 : BitVec 32 := 0#32
  let arg1 : BitVec 32 := BitVec.ofNat 32 (i 1).val
  let c512_i32 : BitVec 32 := 512#32
  let v0 : BitVec 32 := Scalar.muli arg1 c512_i32
  let v1 : BitVec 32 := v0
  let c512_i32_0 : BitVec 32 := 512#32
  let v2 : BitVec 32 := Scalar.addi v1 c512_i32_0
  let c512_i32_1 : BitVec 32 := 512#32
  let v3 : BitVec 32 := Scalar.addi v2 c512_i32_1
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_46 : BitVec 32 := 1#32
  let v88 : BitVec 32 := Scalar.subi v21 c1_i32_46
  let v89 : BitVec 32 := Scalar.subi v88 c0_i32_47
  let c1_i32_49 : BitVec 32 := 1#32
  let v91 : BitVec 32 := Scalar.divsi v89 c1_i32_49
  let v92 : BitVec 32 := Scalar.muli v91 c1_i32_49
  let v93 : BitVec 32 := Scalar.addi c0_i32_47 v92
  let c1_i32_51 : BitVec 32 := 1#32
  let arg11 : BitVec 32 := Scf.iv v93 c1_i32_51 k0_t2
  let c512_i32_803 : BitVec 32 := 512#32
  let v1067 : BitVec 32 := Scalar.muli arg11 c512_i32_803
  let v1068 : BitVec 32 := v1067
  let v1069 : Index := Scalar.indexCast v1068
  ![0, 0, v1069.toNat]
def k0_off8 (i : grid0.Coords) (k0_t2 : Fin (k0_t2_loop i).trips) : Fin 2 → Nat :=
  let c0_i32_47 : BitVec 32 := 0#32
  let arg1 : BitVec 32 := BitVec.ofNat 32 (i 1).val
  let c512_i32 : BitVec 32 := 512#32
  let v0 : BitVec 32 := Scalar.muli arg1 c512_i32
  let v1 : BitVec 32 := v0
  let c512_i32_0 : BitVec 32 := 512#32
  let v2 : BitVec 32 := Scalar.addi v1 c512_i32_0
  let c512_i32_1 : BitVec 32 := 512#32
  let v3 : BitVec 32 := Scalar.addi v2 c512_i32_1
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_46 : BitVec 32 := 1#32
  let v88 : BitVec 32 := Scalar.subi v21 c1_i32_46
  let v89 : BitVec 32 := Scalar.subi v88 c0_i32_47
  let c1_i32_49 : BitVec 32 := 1#32
  let v91 : BitVec 32 := Scalar.divsi v89 c1_i32_49
  let v92 : BitVec 32 := Scalar.muli v91 c1_i32_49
  let v93 : BitVec 32 := Scalar.addi c0_i32_47 v92
  let c1_i32_51 : BitVec 32 := 1#32
  let arg11 : BitVec 32 := Scf.iv v93 c1_i32_51 k0_t2
  let c512_i32_803 : BitVec 32 := 512#32
  let v1067 : BitVec 32 := Scalar.muli arg11 c512_i32_803
  let v1068 : BitVec 32 := v1067
  let v1081 : Index := Scalar.indexCast v1068
  let c0_807 : Index := 0#32
  ![v1081.toNat, 0]
def k0_off9 (i : grid0.Coords) (k0_t2 : Fin (k0_t2_loop i).trips) : Fin 2 → Nat :=
  let c0_i32_47 : BitVec 32 := 0#32
  let arg1 : BitVec 32 := BitVec.ofNat 32 (i 1).val
  let c512_i32 : BitVec 32 := 512#32
  let v0 : BitVec 32 := Scalar.muli arg1 c512_i32
  let v1 : BitVec 32 := v0
  let c512_i32_0 : BitVec 32 := 512#32
  let v2 : BitVec 32 := Scalar.addi v1 c512_i32_0
  let c512_i32_1 : BitVec 32 := 512#32
  let v3 : BitVec 32 := Scalar.addi v2 c512_i32_1
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_46 : BitVec 32 := 1#32
  let v88 : BitVec 32 := Scalar.subi v21 c1_i32_46
  let v89 : BitVec 32 := Scalar.subi v88 c0_i32_47
  let c1_i32_49 : BitVec 32 := 1#32
  let v91 : BitVec 32 := Scalar.divsi v89 c1_i32_49
  let v92 : BitVec 32 := Scalar.muli v91 c1_i32_49
  let v93 : BitVec 32 := Scalar.addi c0_i32_47 v92
  let c1_i32_51 : BitVec 32 := 1#32
  let arg11 : BitVec 32 := Scf.iv v93 c1_i32_51 k0_t2
  let c512_i32_803 : BitVec 32 := 512#32
  let v1067 : BitVec 32 := Scalar.muli arg11 c512_i32_803
  let v1068 : BitVec 32 := v1067
  let v1276 : Index := Scalar.indexCast v1068
  let c128_942 : Index := 128#32
  ![v1276.toNat, 128]
def k0_off10 (i : grid0.Coords) (k0_t2 : Fin (k0_t2_loop i).trips) : Fin 2 → Nat :=
  let c0_i32_47 : BitVec 32 := 0#32
  let arg1 : BitVec 32 := BitVec.ofNat 32 (i 1).val
  let c512_i32 : BitVec 32 := 512#32
  let v0 : BitVec 32 := Scalar.muli arg1 c512_i32
  let v1 : BitVec 32 := v0
  let c512_i32_0 : BitVec 32 := 512#32
  let v2 : BitVec 32 := Scalar.addi v1 c512_i32_0
  let c512_i32_1 : BitVec 32 := 512#32
  let v3 : BitVec 32 := Scalar.addi v2 c512_i32_1
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_46 : BitVec 32 := 1#32
  let v88 : BitVec 32 := Scalar.subi v21 c1_i32_46
  let v89 : BitVec 32 := Scalar.subi v88 c0_i32_47
  let c1_i32_49 : BitVec 32 := 1#32
  let v91 : BitVec 32 := Scalar.divsi v89 c1_i32_49
  let v92 : BitVec 32 := Scalar.muli v91 c1_i32_49
  let v93 : BitVec 32 := Scalar.addi c0_i32_47 v92
  let c1_i32_51 : BitVec 32 := 1#32
  let arg11 : BitVec 32 := Scf.iv v93 c1_i32_51 k0_t2
  let c512_i32_803 : BitVec 32 := 512#32
  let v1067 : BitVec 32 := Scalar.muli arg11 c512_i32_803
  let v1068 : BitVec 32 := v1067
  let v1471 : Index := Scalar.indexCast v1068
  let c256_1077 : Index := 256#32
  ![v1471.toNat, 256]
def k0_off11 (i : grid0.Coords) (k0_t2 : Fin (k0_t2_loop i).trips) : Fin 2 → Nat :=
  let c0_i32_47 : BitVec 32 := 0#32
  let arg1 : BitVec 32 := BitVec.ofNat 32 (i 1).val
  let c512_i32 : BitVec 32 := 512#32
  let v0 : BitVec 32 := Scalar.muli arg1 c512_i32
  let v1 : BitVec 32 := v0
  let c512_i32_0 : BitVec 32 := 512#32
  let v2 : BitVec 32 := Scalar.addi v1 c512_i32_0
  let c512_i32_1 : BitVec 32 := 512#32
  let v3 : BitVec 32 := Scalar.addi v2 c512_i32_1
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_46 : BitVec 32 := 1#32
  let v88 : BitVec 32 := Scalar.subi v21 c1_i32_46
  let v89 : BitVec 32 := Scalar.subi v88 c0_i32_47
  let c1_i32_49 : BitVec 32 := 1#32
  let v91 : BitVec 32 := Scalar.divsi v89 c1_i32_49
  let v92 : BitVec 32 := Scalar.muli v91 c1_i32_49
  let v93 : BitVec 32 := Scalar.addi c0_i32_47 v92
  let c1_i32_51 : BitVec 32 := 1#32
  let arg11 : BitVec 32 := Scf.iv v93 c1_i32_51 k0_t2
  let c512_i32_803 : BitVec 32 := 512#32
  let v1067 : BitVec 32 := Scalar.muli arg11 c512_i32_803
  let v1068 : BitVec 32 := v1067
  let v1666 : Index := Scalar.indexCast v1068
  let c384_1212 : Index := 384#32
  ![v1666.toNat, 384]
def k0_mult4 (i : grid0.Coords) : BitVec 32 :=
  let arg1 : BitVec 32 := BitVec.ofNat 32 (i 1).val
  let c512_i32 : BitVec 32 := 512#32
  let v0 : BitVec 32 := Scalar.muli arg1 c512_i32
  let v1 : BitVec 32 := v0
  let c512_i32_0 : BitVec 32 := 512#32
  let v2 : BitVec 32 := Scalar.addi v1 c512_i32_0
  let c512_i32_1 : BitVec 32 := 512#32
  let v3 : BitVec 32 := Scalar.addi v2 c512_i32_1
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_52 : BitVec 32 := 1#32
  let v96 : BitVec 32 := Scalar.subi v21 c1_i32_52
  let c512_i32_53 : BitVec 32 := 512#32
  let v97 : BitVec 32 := Scalar.muli v96 c512_i32_53
  v97
def k0_off12 (i : grid0.Coords) : Fin 3 → Nat :=
  let c0_54 : Index := 0#32
  let c0_55 : Index := 0#32
  let arg1 : BitVec 32 := BitVec.ofNat 32 (i 1).val
  let c512_i32 : BitVec 32 := 512#32
  let v0 : BitVec 32 := Scalar.muli arg1 c512_i32
  let v1 : BitVec 32 := v0
  let c512_i32_0 : BitVec 32 := 512#32
  let v2 : BitVec 32 := Scalar.addi v1 c512_i32_0
  let c512_i32_1 : BitVec 32 := 512#32
  let v3 : BitVec 32 := Scalar.addi v2 c512_i32_1
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_52 : BitVec 32 := 1#32
  let v96 : BitVec 32 := Scalar.subi v21 c1_i32_52
  let c512_i32_53 : BitVec 32 := 512#32
  let v97 : BitVec 32 := Scalar.muli v96 c512_i32_53
  let v98 : BitVec 32 := v97
  let v99 : Index := Scalar.indexCast v98
  ![0, 0, v99.toNat]
def k0_off13 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let c512_i32_0 : BitVec 32 := 512#32
  let v2 : BitVec 32 := Scalar.addi v1 c512_i32_0
  let c512_i32_1 : BitVec 32 := 512#32
  let v3 : BitVec 32 := Scalar.addi v2 c512_i32_1
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_52 : BitVec 32 := 1#32
  let v96 : BitVec 32 := Scalar.subi v21 c1_i32_52
  let c512_i32_53 : BitVec 32 := 512#32
  let v97 : BitVec 32 := Scalar.muli v96 c512_i32_53
  let v98 : BitVec 32 := v97
  let v111 : Index := Scalar.indexCast v98
  let c0_57 : Index := 0#32
  ![v111.toNat, 0]
def k0_off14 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let c512_i32_0 : BitVec 32 := 512#32
  let v2 : BitVec 32 := Scalar.addi v1 c512_i32_0
  let c512_i32_1 : BitVec 32 := 512#32
  let v3 : BitVec 32 := Scalar.addi v2 c512_i32_1
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_52 : BitVec 32 := 1#32
  let v96 : BitVec 32 := Scalar.subi v21 c1_i32_52
  let c512_i32_53 : BitVec 32 := 512#32
  let v97 : BitVec 32 := Scalar.muli v96 c512_i32_53
  let v98 : BitVec 32 := v97
  let v314 : Index := Scalar.indexCast v98
  let c128_196 : Index := 128#32
  ![v314.toNat, 128]
def k0_off15 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let c512_i32_0 : BitVec 32 := 512#32
  let v2 : BitVec 32 := Scalar.addi v1 c512_i32_0
  let c512_i32_1 : BitVec 32 := 512#32
  let v3 : BitVec 32 := Scalar.addi v2 c512_i32_1
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_52 : BitVec 32 := 1#32
  let v96 : BitVec 32 := Scalar.subi v21 c1_i32_52
  let c512_i32_53 : BitVec 32 := 512#32
  let v97 : BitVec 32 := Scalar.muli v96 c512_i32_53
  let v98 : BitVec 32 := v97
  let v517 : Index := Scalar.indexCast v98
  let c256_335 : Index := 256#32
  ![v517.toNat, 256]
def k0_off16 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let c512_i32_0 : BitVec 32 := 512#32
  let v2 : BitVec 32 := Scalar.addi v1 c512_i32_0
  let c512_i32_1 : BitVec 32 := 512#32
  let v3 : BitVec 32 := Scalar.addi v2 c512_i32_1
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_52 : BitVec 32 := 1#32
  let v96 : BitVec 32 := Scalar.subi v21 c1_i32_52
  let c512_i32_53 : BitVec 32 := 512#32
  let v97 : BitVec 32 := Scalar.muli v96 c512_i32_53
  let v98 : BitVec 32 := v97
  let v720 : Index := Scalar.indexCast v98
  let c384_473 : Index := 384#32
  ![v720.toNat, 384]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FoxIdeal.lean ====
variable {F : FTy → Type} [FloatOps F] [Named F]
def κ : String → Option EReal := fun
  | "log2e" => some (((Real.log 2)⁻¹ : ℝ) : EReal)
  | "mask" => some ⊥
  | _ => none
-- ==== FoxRefIdeal.lean ====
abbrev S8192x2048 : Shape := ⟨2, ![8192, 2048]⟩
abbrev S8192x512 : Shape := ⟨2, ![8192, 512]⟩
abbrev S2x16x4096 : Shape := ⟨3, ![2, 16, 4096]⟩
abbrev S2x4096x4x4x128 : Shape := ⟨5, ![2, 4096, 4, 4, 128]⟩
abbrev S2x4096x4x128 : Shape := ⟨4, ![2, 4096, 4, 128]⟩
abbrev S2x4x4x4096 : Shape := ⟨4, ![2, 4, 4, 4096]⟩
abbrev S4096 : Shape := ⟨1, ![4096]⟩
abbrev S2x4x4096x4096x4 : Shape := ⟨5, ![2, 4, 4096, 4096, 4]⟩
abbrev S2x4x4x4096x4096 : Shape := ⟨5, ![2, 4, 4, 4096, 4096]⟩
abbrev S_ : Shape := ⟨0, ![]⟩
abbrev S2x4x4x4096x1 : Shape := ⟨5, ![2, 4, 4, 4096, 1]⟩
abbrev S2x4x4x1x4096 : Shape := ⟨5, ![2, 4, 4, 1, 4096]⟩
abbrev S1x4096 : Shape := ⟨2, ![1, 4096]⟩
abbrev S4096x1 : Shape := ⟨2, ![4096, 1]⟩
abbrev S4096x4096 : Shape := ⟨2, ![4096, 4096]⟩
abbrev S2x4x128x4x4096 : Shape := ⟨5, ![2, 4, 128, 4, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x512, .f32⟩
  | .hbm, ⟨3, _⟩ => ⟨S2x16x4096, .f32⟩
  | .hbm, ⟨4, _⟩ => ⟨S2x4096x4x4x128, .f32⟩
  | .hbm, ⟨5, _⟩ => ⟨S2x4096x4x128, .f32⟩
  | .hbm, ⟨6, _⟩ => ⟨S2x4096x4x128, .f32⟩
  | .hbm, ⟨7, _⟩ => ⟨S2x4x4x4096, .f32⟩
  | .hbm, ⟨8, _⟩ => ⟨S4096, .i32⟩
  | .hbm, ⟨9, _⟩ => ⟨S4096, .i32⟩
  | .hbm, ⟨10, _⟩ => ⟨S2x4x4096x4096x4, .f32⟩
  | .hbm, ⟨11, _⟩ => ⟨S2x4x4x4096x4096, .f32⟩
  | .hbm, ⟨12, _⟩ => ⟨S_, .f32⟩
  | .hbm, ⟨13, _⟩ => ⟨S_, .f32⟩
  | .hbm, ⟨14, _⟩ => ⟨S2x4x4x4096x4096, .f32⟩
  | .hbm, ⟨15, _⟩ => ⟨S2x4x4x4096x4096, .f32⟩
  | .hbm, ⟨16, _⟩ => ⟨S2x4x4x4096x1, .f32⟩
  | .hbm, ⟨17, _⟩ => ⟨S2x4x4x1x4096, .f32⟩
  | .hbm, ⟨18, _⟩ => ⟨S2x4x4x4096x4096, .f32⟩
  | .hbm, ⟨19, _⟩ => ⟨S2x4x4x4096x4096, .f32⟩
  | .hbm, ⟨20, _⟩ => ⟨S2x4x4x4096x4096, .f32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S2x4x4x4096x4096, .f32⟩
  | .hbm, ⟨27, _⟩ => ⟨S_, .f32⟩
  | .hbm, ⟨28, _⟩ => ⟨S_, .f32⟩
  | .hbm, ⟨29, _⟩ => ⟨S2x4x4x4096x4096, .i1⟩
  | .hbm, ⟨30, _⟩ => ⟨S2x4x4x4096x4096, .f32⟩
  | .hbm, ⟨31, _⟩ => ⟨S2x4x4x4096x4096, .f32⟩
  | .hbm, ⟨32, _⟩ => ⟨S_, .f32⟩
  | .hbm, ⟨33, _⟩ => ⟨S2x4x4x4096, .f32⟩
  | .hbm, ⟨34, _⟩ => ⟨S_, .f32⟩
  | .hbm, ⟨35, _⟩ => ⟨S2x4x4x4096, .f32⟩
  | .hbm, ⟨36, _⟩ => ⟨S2x4x4x4096, .f32⟩
  | .hbm, ⟨37, _⟩ => ⟨S2x4x4x4096x1, .f32⟩
  | .hbm, ⟨38, _⟩ => ⟨S2x4x4x4096x4096, .f32⟩
  | .hbm, ⟨39, _⟩ => ⟨S2x4x4x4096x4096, .f32⟩
  | .hbm, ⟨40, _⟩ => ⟨S2x4x4x4096x4096, .f32⟩
  | .hbm, ⟨41, _⟩ => ⟨S_, .f32⟩
  | .hbm, ⟨42, _⟩ => ⟨S2x4x4x4096, .f32⟩
  | .hbm, ⟨43, _⟩ => ⟨S2x4x4x4096x1, .f32⟩
  | .hbm, ⟨44, _⟩ => ⟨S2x4x4x4096x4096, .f32⟩
  | .hbm, ⟨45, _⟩ => ⟨S2x4x4x4096x4096, .f32⟩
  | .hbm, ⟨46, _⟩ => ⟨S2x4x128x4x4096, .f32⟩
  | .hbm, ⟨47, _⟩ => ⟨S2x4096x4x4x128, .f32⟩
  | .hbm, ⟨48, _⟩ => ⟨S8192x2048, .f32⟩
  | .hbm, ⟨49, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Down.lean ====
abbrev S8192x5632 : Shape := ⟨2, ![8192, 5632]⟩
abbrev S2x5632x2048 : Shape := ⟨3, ![2, 5632, 2048]⟩
abbrev S8192x2048 : Shape := ⟨2, ![8192, 2048]⟩
abbrev S2x1x2048 : Shape := ⟨3, ![2, 1, 2048]⟩
abbrev S1024x5632 : Shape := ⟨2, ![1024, 5632]⟩
abbrev S1x5632x256 : Shape := ⟨3, ![1, 5632, 256]⟩
abbrev S1024x256 : Shape := ⟨2, ![1024, 256]⟩
abbrev S1x1x256 : Shape := ⟨3, ![1, 1, 256]⟩
abbrev S5632x256 : Shape := ⟨2, ![5632, 256]⟩
abbrev S1x256 : Shape := ⟨2, ![1, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S2x1x2048, .f32⟩
  | .hbm, ⟨4, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x256, .f32⟩
  | .local _ .vmem, ⟨3, _⟩ => ⟨S1x5632x256, .f32⟩
  | .local _ .vmem, ⟨4, _⟩ => ⟨S1024x256, .f32⟩
  | .local _ .vmem, ⟨5, _⟩ => ⟨S1024x256, .f32⟩
  | .local _ .vmem, ⟨6, _⟩ => ⟨S1x1x256, .f32⟩
  | .local _ .vmem, ⟨7, _⟩ => ⟨S1x1x256, .f32⟩
  | .local _ .vmem, ⟨8, _⟩ => ⟨S1024x256, .f32⟩
  | .local _ .vmem, ⟨9, _⟩ => ⟨S1024x256, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5632x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DownRefIdeal.lean ====
abbrev S8192x5632 : Shape := ⟨2, ![8192, 5632]⟩
abbrev S2x5632x2048 : Shape := ⟨3, ![2, 5632, 2048]⟩
abbrev S8192x2048 : Shape := ⟨2, ![8192, 2048]⟩
abbrev S2x1x2048 : Shape := ⟨3, ![2, 1, 2048]⟩
abbrev S1x5632x2048 : Shape := ⟨3, ![1, 5632, 2048]⟩
abbrev S5632x2048 : Shape := ⟨2, ![5632, 2048]⟩
abbrev S2x4096x2048 : Shape := ⟨3, ![2, 4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S2x1x2048, .f32⟩
  | .hbm, ⟨4, _⟩ => ⟨S8192x5632, .f32⟩
  | .hbm, ⟨5, _⟩ => ⟨S1x5632x2048, .f32⟩
  | .hbm, ⟨6, _⟩ => ⟨S5632x2048, .f32⟩
  | .hbm, ⟨7, _⟩ => ⟨S8192x2048, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | .hbm, ⟨13, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Out.lean ====
abbrev S8192x2048 : Shape := ⟨2, ![8192, 2048]⟩
abbrev S1x2048x2048 : Shape := ⟨3, ![1, 2048, 2048]⟩
abbrev S2x1x2048 : Shape := ⟨3, ![2, 1, 2048]⟩
abbrev S2048x2048 : Shape := ⟨2, ![2048, 2048]⟩
abbrev S1x2048x512 : Shape := ⟨3, ![1, 2048, 512]⟩
abbrev S2048x512 : Shape := ⟨2, ![2048, 512]⟩
abbrev S1x1x512 : Shape := ⟨3, ![1, 1, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S2x1x2048, .f32⟩
  | .hbm, ⟨4, _⟩ => ⟨S8192x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2048x512, .f32⟩
  | .local _ .vmem, ⟨5, _⟩ => ⟨S2048x512, .f32⟩
  | .local _ .vmem, ⟨6, _⟩ => ⟨S1x1x512, .f32⟩
  | .local _ .vmem, ⟨7, _⟩ => ⟨S1x1x512, .f32⟩
  | .local _ .vmem, ⟨8, _⟩ => ⟨S2048x512, .f32⟩
  | .local _ .vmem, ⟨9, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutRefIdeal.lean ====
abbrev S8192x2048 : Shape := ⟨2, ![8192, 2048]⟩
abbrev S1x2048x2048 : Shape := ⟨3, ![1, 2048, 2048]⟩
abbrev S2x1x2048 : Shape := ⟨3, ![2, 1, 2048]⟩
abbrev S2048x2048 : Shape := ⟨2, ![2048, 2048]⟩
abbrev S2x4096x2048 : Shape := ⟨3, ![2, 4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S2x1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Up.lean ====
abbrev S8192x2048 : Shape := ⟨2, ![8192, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x1x11264 : Shape := ⟨3, ![2, 1, 11264]⟩
abbrev S8192x5632 : Shape := ⟨2, ![8192, 5632]⟩
abbrev S8x2x5632 : Shape := ⟨3, ![8, 2, 5632]⟩
abbrev S1024x2048 : Shape := ⟨2, ![1024, 2048]⟩
abbrev S16x2048 : Shape := ⟨2, ![16, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1024x512 : Shape := ⟨2, ![1024, 512]⟩
abbrev S1x2x512 : Shape := ⟨3, ![1, 2, 512]⟩
abbrev S1040x2048 : Shape := ⟨2, ![1040, 2048]⟩
abbrev S1040x512 : Shape := ⟨2, ![1040, 512]⟩
abbrev S2048x512 : Shape := ⟨2, ![2048, 512]⟩
abbrev S1x512 : Shape := ⟨2, ![1, 512]⟩
abbrev S2x512 : Shape := ⟨2, ![2, 512]⟩
abbrev S2x2x5632 : Shape := ⟨3, ![2, 2, 5632]⟩

abbrev nBuf : Space → Nat
  | .hbm => 10
  | .vmem => 25
  | .smem => 0
  | _ => 0

abbrev bufTy : (tb : Table) → Fin (tcTables nBuf tb) → BufTy
  | .hbm, ⟨0, _⟩ => ⟨S8192x2048, .bf16⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S2x1x11264, .f32⟩
  | .hbm, ⟨5, _⟩ => ⟨S8192x5632, .bf16⟩
  | .hbm, ⟨6, _⟩ => ⟨S8x2x5632, .f32⟩
  | .hbm, ⟨7, _⟩ => ⟨S8x2x5632, .f32⟩
  | .hbm, ⟨8, _⟩ => ⟨S2x2x5632, .f32⟩
  | .hbm, ⟨9, _⟩ => ⟨S2x2x5632, .f32⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S16x2048, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1x3x512, .f32⟩
  | .local _ .vmem, ⟨9, _⟩ => ⟨S1x3x512, .f32⟩
  | .local _ .vmem, ⟨10, _⟩ => ⟨S1x3x512, .f32⟩
  | .local _ .vmem, ⟨11, _⟩ => ⟨S1x3x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1024x512, .bf16⟩
  | .local _ .vmem, ⟨17, _⟩ => ⟨S1024x512, .bf16⟩
  | .local _ .vmem, ⟨18, _⟩ => ⟨S1x2x512, .f32⟩
  | .local _ .vmem, ⟨19, _⟩ => ⟨S1x2x512, .f32⟩
  | .local _ .vmem, ⟨20, _⟩ => ⟨S1x2x512, .f32⟩
  | .local _ .vmem, ⟨21, _⟩ => ⟨S1x2x512, .f32⟩
  | .local _ .vmem, ⟨22, _⟩ => ⟨S1040x2048, .bf16⟩
  | .local _ .vmem, ⟨23, _⟩ => ⟨S1040x512, .f32⟩
  | .local _ .vmem, ⟨24, _⟩ => ⟨S1040x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpRefIdeal.lean ====
abbrev S8192x2048 : Shape := ⟨2, ![8192, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x4096x2048 : Shape := ⟨3, ![2, 4096, 2048]⟩
abbrev S1x2048x11264 : Shape := ⟨3, ![1, 2048, 11264]⟩
abbrev S2048x11264 : Shape := ⟨2, ![2048, 11264]⟩
abbrev S2x4096x11264 : Shape := ⟨3, ![2, 4096, 11264]⟩
abbrev S_ : Shape := ⟨0, ![]⟩
abbrev S2x2x11264 : Shape := ⟨3, ![2, 2, 11264]⟩
abbrev S2x4098x11264 : Shape := ⟨3, ![2, 4098, 11264]⟩
abbrev S1x11264 : Shape := ⟨2, ![1, 11264]⟩
abbrev S11264 : Shape := ⟨1, ![11264]⟩
abbrev S1x1x11264 : Shape := ⟨3, ![1, 1, 11264]⟩
abbrev S2x4096x5632 : Shape := ⟨3, ![2, 4096, 5632]⟩
abbrev S8192x5632 : Shape := ⟨2, ![8192, 5632]⟩
abbrev S2x2x5632 : Shape := ⟨3, ![2, 2, 5632]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S2x4096x2048, .bf16⟩
  | .hbm, ⟨5, _⟩ => ⟨S2x4096x2048, .f32⟩
  | .hbm, ⟨6, _⟩ => ⟨S1x2048x11264, .f32⟩
  | .hbm, ⟨7, _⟩ => ⟨S2048x11264, .f32⟩
  | .hbm, ⟨8, _⟩ => ⟨S2x4096x11264, .f32⟩
  | .hbm, ⟨9, _⟩ => ⟨S_, .f32⟩
  | .hbm, ⟨10, _⟩ => ⟨S2x2x11264, .f32⟩
  | .hbm, ⟨11, _⟩ => ⟨S2x4098x11264, .f32⟩
  | .hbm, ⟨12, _⟩ => ⟨S1x11264, .f32⟩
  | .hbm, ⟨13, _⟩ => ⟨S11264, .f32⟩
  | .hbm, ⟨14, _⟩ => ⟨S2x4096x11264, .f32⟩
  | .hbm, ⟨15, _⟩ => ⟨S1x1x11264, .f32⟩
  | .hbm, ⟨16, _⟩ => ⟨S11264, .f32⟩
  | .hbm, ⟨17, _⟩ => ⟨S1x1x11264, .f32⟩
  | .hbm, ⟨18, _⟩ => ⟨S2x4096x11264, .f32⟩
  | .hbm, ⟨19, _⟩ => ⟨S2x4096x11264, .f32⟩
  | .hbm, ⟨20, _⟩ => ⟨S1x1x11264, .f32⟩
  | .hbm, ⟨21, _⟩ => ⟨S2x4096x11264, .f32⟩
  | .hbm, ⟨22, _⟩ => ⟨S2x4096x11264, .f32⟩
  | .hbm, ⟨23, _⟩ => ⟨S2x4096x11264, .f32⟩
  | .hbm, ⟨24, _⟩ => ⟨S1x1x11264, .f32⟩
  | .hbm, ⟨25, _⟩ => ⟨S11264, .f32⟩
  | .hbm, ⟨26, _⟩ => ⟨S1x1x11264, .f32⟩
  | .hbm, ⟨27, _⟩ => ⟨S2x4096x11264, .f32⟩
  | .hbm, ⟨28, _⟩ => ⟨S2x4096x11264, .f32⟩
  | .hbm, ⟨29, _⟩ => ⟨S2x4096x11264, .f32⟩
  | .hbm, ⟨30, _⟩ => ⟨S2x4096x11264, .f32⟩
  | .hbm, ⟨31, _⟩ => ⟨S1x1x11264, .f32⟩
  | .hbm, ⟨32, _⟩ => ⟨S11264, .f32⟩
  | .hbm, ⟨33, _⟩ => ⟨S1x1x11264, .f32⟩
  | .hbm, ⟨34, _⟩ => ⟨S2x4096x11264, .f32⟩
  | .hbm, ⟨35, _⟩ => ⟨S2x4096x11264, .f32⟩
  | .hbm, ⟨36, _⟩ => ⟨S2x4096x11264, .f32⟩
  | .hbm, ⟨37, _⟩ => ⟨S2x4096x5632, .f32⟩
  | .hbm, ⟨38, _⟩ => ⟨S2x4096x5632, .f32⟩
  | .hbm, ⟨39, _⟩ => ⟨S2x4096x5632, .f32⟩
  | .hbm, ⟨40, _⟩ => ⟨S2x4096x5632, .f32⟩
  | .hbm, ⟨41, _⟩ => ⟨S_, .f32⟩
  | .hbm, ⟨42, _⟩ => ⟨S2x4096x5632, .f32⟩
  | .hbm, ⟨43, _⟩ => ⟨S2x4096x5632, .f32⟩
  | .hbm, ⟨44, _⟩ => ⟨S_, .f32⟩
  | .hbm, ⟨45, _⟩ => ⟨S2x4096x5632, .f32⟩
  | .hbm, ⟨46, _⟩ => ⟨S2x4096x5632, .f32⟩
  | .hbm, ⟨47, _⟩ => ⟨S2x4096x5632, .f32⟩
  | .hbm, ⟨48, _⟩ => ⟨S2x4096x5632, .f32⟩
  | .hbm, ⟨49, _⟩ => ⟨S2x4096x5632, .bf16⟩
  | .hbm, ⟨50, _⟩ => ⟨S2x2x11264, .f32⟩
  | .hbm, ⟨51, _⟩ => ⟨S8192x5632, .bf16⟩
  | .hbm, ⟨52, _⟩ => ⟨S2x2x5632, .f32⟩
  | .hbm, ⟨53, _⟩ => ⟨S2x2x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Proof.DownValue.lean ====
module

public import proofs.«01_k».proof.Proof.Gen.DownIdeal.Value
public import proofs.«01_k».proof.Proof.Gen.DownRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownIdeal.Residual

open Cert.DownIdeal Cert.DownIdeal.Gen

variable (m : (ℓ : Loc nD τ sig) → Buf (Elt Ideal) ℓ)

/-- The reference's term: the residual plus the gate times the product with the first layer's weights. -/
abbrev REF (A : FVec Ideal S8192x5632 .bf16) (W : FVec Ideal S2x5632x2048 .f32) (X : FVec Ideal S8192x2048 .f32)
    (G : FVec Ideal S2x1x2048 .f32) : FVec Ideal S8192x2048 .f32 :=
  shapeCast _ (addf (shapeCast _ X Cert.DownRefIdeal.Gen.shapeCasts_S8192x2048_S2x4096x2048)
    (mulf (broadcastInDim Cert.DownRefIdeal.S2x4096x2048 ![0, 1, 2] Cert.DownRefIdeal.Gen.bcast_S2x1x2048_S2x4096x2048_0_1_2 G)
      (shapeCast _ (Host.dotGeneral Cert.DownRefIdeal.dot_S8192x5632_S5632x2048_S8192x2048_1_0_0_1_n_n none
        (extf .f32 A Cert.DownRefIdeal.Gen.bitsLt_bf16_f32)
        (shapeCast _ (extractStridedSlice Cert.DownRefIdeal.S1x5632x2048 ![0, 0, 0] W
          Cert.DownRefIdeal.Gen.slices_S2x5632x2048_S1x5632x2048_0_0_0)
          Cert.DownRefIdeal.Gen.shapeCasts_S1x5632x2048_S5632x2048))
        Cert.DownRefIdeal.Gen.shapeCasts_S8192x2048_S2x4096x2048)))
    Cert.DownRefIdeal.Gen.shapeCasts_S2x4096x2048_S8192x2048

/-- The block index of every window at every grid point. -/
theorem idx : ∀ t : Fin cfg0.N, win0_0.index t = ![t.val / 8, 0] ∧ win0_1.index t = ![0, 0, t.val % 8]
    ∧ win0_2.index t = ![t.val / 8, t.val % 8] ∧ win0_3.index t = ![t.val / 32, 0, t.val % 8]
    ∧ win0_4.index t = ![t.val / 8, t.val % 8] :=
  (by decide +kernel : ∀ t : Fin grid0.N, _)

set_option maxHeartbeats 1600000 in
/-- What grid point `t` stores at index `y` of its block is the reference at the array index `y` sits at. -/
theorem point (c : Dev nD) (t : Fin cfg0.N) (y) :
    k0_pay1 (iblk m c 0 t) (iblk m c 1 t) (iblk m c 2 t) (iblk m c 3 t) y
      = REF (m ((c : Thread nD τ).loc main_arg0)) (m ((c : Thread nD τ).loc main_arg1))
          (m ((c : Thread nD τ).loc main_arg2)) (m ((c : Thread nD τ).loc main_arg3))
          (((cfg0.win 4).blk t).view.emb y) := by
  pointwise [k0_pay1, REF]
  blk_point [iblk, V, idx t]

/-- The result array after the run is the reference's term. -/
theorem final (c : Dev nD) : (dats m 0 c).arrAt 4 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.DownIdeal.Residual

end
-- ==== Proof.OutValue.lean ====
module

public import proofs.«01_k».proof.Proof.Gen.OutIdeal.Value
public import proofs.«01_k».proof.Proof.Gen.OutRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutIdeal.Residual

open Cert.OutIdeal Cert.OutIdeal.Gen

variable (m : (ℓ : Loc nD τ sig) → Buf (Elt Ideal) ℓ)

/-- The reference's term: the residual plus the gate times the product with the output weights. -/
abbrev REF (A : FVec Ideal S8192x2048 .bf16) (W : FVec Ideal S1x2048x2048 .f32) (X : FVec Ideal S8192x2048 .f32)
    (G : FVec Ideal S2x1x2048 .f32) : FVec Ideal S8192x2048 .f32 :=
  shapeCast _ (addf (shapeCast _ X Cert.OutRefIdeal.Gen.shapeCasts_S8192x2048_S2x4096x2048)
    (mulf (broadcastInDim Cert.OutRefIdeal.S2x4096x2048 ![0, 1, 2] Cert.OutRefIdeal.Gen.bcast_S2x1x2048_S2x4096x2048_0_1_2 G)
      (shapeCast _ (Host.dotGeneral Cert.OutRefIdeal.dot_S8192x2048_S2048x2048_S8192x2048_1_0_0_1_n_n none
        (extf .f32 A Cert.OutRefIdeal.Gen.bitsLt_bf16_f32)
        (shapeCast _ W
          Cert.OutRefIdeal.Gen.shapeCasts_S1x2048x2048_S2048x2048))
        Cert.OutRefIdeal.Gen.shapeCasts_S8192x2048_S2x4096x2048)))
    Cert.OutRefIdeal.Gen.shapeCasts_S2x4096x2048_S8192x2048

/-- The block index of every window at every grid point. -/
theorem idx : ∀ t : Fin cfg0.N, win0_0.index t = ![t.val / 4, 0] ∧ win0_1.index t = ![0, 0, t.val % 4]
    ∧ win0_2.index t = ![t.val / 4, t.val % 4] ∧ win0_3.index t = ![t.val / 8, 0, t.val % 4]
    ∧ win0_4.index t = ![t.val / 4, t.val % 4] :=
  (by decide +kernel : ∀ t : Fin grid0.N, _)

set_option maxHeartbeats 1600000 in
/-- What grid point `t` stores at index `y` of its block is the reference at the array index `y` sits at. -/
theorem point (c : Dev nD) (t : Fin cfg0.N) (y) :
    k0_pay1 (iblk m c 0 t) (iblk m c 1 t) (iblk m c 2 t) (iblk m c 3 t) y
      = REF (m ((c : Thread nD τ).loc main_arg0)) (m ((c : Thread nD τ).loc main_arg1))
          (m ((c : Thread nD τ).loc main_arg2)) (m ((c : Thread nD τ).loc main_arg3))
          (((cfg0.win 4).blk t).view.emb y) := by
  pointwise [k0_pay1, REF]
  blk_point [iblk, V, idx t]

/-- The result array after the run is the reference's term. -/
theorem final (c : Dev nD) : (dats m 0 c).arrAt 4 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.OutIdeal.Residual

end
-- ==== Proof.UpValue.lean ====
module

public import proofs.«01_k».proof.Proof.Gen.UpIdeal.Frame
public import proofs.«01_k».proof.Proof.Gen.UpRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpIdeal.Conv

open Cert.UpIdeal Cert.UpIdeal.Gen

variable (m : (ℓ : Loc nD τ sig) → Buf (Elt Ideal) ℓ)

/-- The rows of the activations which point `t`'s tile reads: sixteen rows of the previous tile, or zeros where a
    sequence begins, then the tile's own rows. -/
def HB (A : FVec Ideal S8192x2048 .bf16) (q : ℕ) : FVec Ideal S1040x2048 .bf16 := fun y =>
  if 1024 * (q % 4) + (y 0).val < 16 then 0 else A (ix2 ⟨(1024 * q + (y 0).val - 16) % 8192, Nat.mod_lt _ (by decide)⟩ (y 1))

/-- The block index of every window at every grid point. -/
theorem idx : ∀ t : Fin cfg0.N, win0_0.index t = ![t.val / 11, 0] ∧ win0_1.index t = ![t.val / 11 * 64 - 1, 0]
    ∧ win0_2.index t = ![0, 0, t.val % 11] ∧ win0_3.index t = ![0, 0, 11 + t.val % 11]
    ∧ win0_4.index t = ![0, 0, t.val % 11] ∧ win0_5.index t = ![0, 0, 11 + t.val % 11]
    ∧ win0_6.index t = ![0, 0, t.val % 11] ∧ win0_7.index t = ![0, 0, 11 + t.val % 11]
    ∧ win0_8.index t = ![t.val / 11, t.val % 11] ∧ win0_9.index t = ![t.val / 11, 0, t.val % 11]
    ∧ win0_10.index t = ![t.val / 11, 0, t.val % 11] :=
  (by decide +kernel : ∀ t : Fin grid0.N, _)

/-- The halo a tile takes over is kept or zeroed by where the tile stands in its sequence. -/
theorem halo (t : Fin cfg0.N) (x : FVec Ideal S16x2048 .bf16) :
    k0_pay4 (grid0.coords t) x = if t.val / 11 % 4 = 0 then (fun _ => 0) else x := by
  have h : ∀ t : Fin grid0.N, Scalar.cmpi .eq (Scalar.select (Scalar.andi (Scalar.xori (Scalar.cmpi .slt (Scalar.remsi (BitVec.ofNat 32 (grid0.coords t 0).val) (4#32)) 0#32) (Scalar.cmpi .slt (4#32) 0#32)) (Scalar.cmpi .ne (Scalar.remsi (BitVec.ofNat 32 (grid0.coords t 0).val) (4#32)) 0#32)) (Scalar.addi (Scalar.remsi (BitVec.ofNat 32 (grid0.coords t 0).val) (4#32)) 4#32) (Scalar.remsi (BitVec.ofNat 32 (grid0.coords t 0).val) (4#32))) 0#32 = if t.val / 11 % 4 = 0 then 1#1 else 0#1 := by decide +kernel
  have e := h t
  funext y
  unfold k0_pay4
  dsimp only
  rw [show Scalar.select (Scalar.cmpi .eq 4#32 0#32) 1#32 4#32 = 4#32 by decide, e]
  by_cases h0 : t.val / 11 % 4 = 0
  · simp only [h0, if_true]
    pointwise []
  · simp only [h0, if_false]
    pointwise []

/-- A read through a rectangle of what one store over the whole product buffer left is the payload's part there. -/
theorem rd (v : View sig .tc .vmem S1040x512 .f32) (w : FVec Ideal S1040x512 .f32) (r : Rect S1040x512) :
    v.readCov [(⟨Rect.unit ![0, 0] ![1040, 512] Gen.inb_S1040x512_S1040x512_0_0, w⟩ : View.Piece (Elt Ideal) S1040x512 .f32)] r.toLoadRect
      = View.ld w r := by
  have h : View.canon [(⟨Rect.unit ![0, 0] ![1040, 512] Gen.inb_S1040x512_S1040x512_0_0, w⟩ : View.Piece (Elt Ideal) S1040x512 .f32)] = w := by
    funext y
    canon_tiles x h
    pointwise []
    blk_ext
  rw [View.readCov_eq_canon', h]

set_option maxHeartbeats 1600000 in
/-- The two stores into the row buffer leave the tile's rows under the sixteen it takes over. -/
theorem rows (c : Dev nD) (t : Fin cfg0.N) : View.canon
      [(⟨Rect.unit ![16, 0] ![1024, 2048] Gen.inb_S1040x2048_S1024x2048_16_0, k0_pay5 (iblk m c 0 t)⟩ : View.Piece (Elt Ideal) S1040x2048 .bf16),
        ⟨Rect.unit ![0, 0] ![16, 2048] Gen.inb_S1040x2048_S16x2048_0_0, k0_pay4 (grid0.coords t) (iblk m c 1 t)⟩] =
    HB (m ((c : Thread nD τ).loc main_arg0)) (t.val / 11) := by
  have ht : t.val < 88 := lt_of_lt_of_eq t.isLt (by decide)
  funext y
  rw [halo]
  have cover : ∃ p ∈ [(⟨Rect.unit ![16, 0] ![1024, 2048] Gen.inb_S1040x2048_S1024x2048_16_0, k0_pay5 (iblk m c 0 t)⟩ : View.Piece (Elt Ideal) S1040x2048 .bf16),
        ⟨Rect.unit ![0, 0] ![16, 2048] Gen.inb_S1040x2048_S16x2048_0_0, if t.val / 11 % 4 = 0 then (fun _ => 0) else iblk m c 1 t⟩], y ∈ p.1.set := by
    have h0 : (y 0).val < 1040 := (y 0).isLt
    have h1 : (y 1).val < 2048 := (y 1).isLt
    by_cases h : (y 0).val < 16
    · have hm : y ∈ (Rect.unit (s := S1040x2048) ![0, 0] ![16, 2048] Gen.inb_S1040x2048_S16x2048_0_0).set := by
        refine Rect.mem_set_unit.2 fun a => ?_
        fin_cases a
        · exact ⟨Nat.zero_le _, by simpa using h⟩
        · exact ⟨Nat.zero_le _, by simpa using h1⟩
      exact ⟨_, List.mem_cons_of_mem _ (List.mem_singleton_self _), hm⟩
    · have hm : y ∈ (Rect.unit (s := S1040x2048) ![16, 0] ![1024, 2048] Gen.inb_S1040x2048_S1024x2048_16_0).set := by
        refine Rect.mem_set_unit.2 fun a => ?_
        fin_cases a
        · exact ⟨by simpa using h, by simpa using h0⟩
        · exact ⟨Nat.zero_le _, by simpa using h1⟩
      exact ⟨_, List.mem_cons_self, hm⟩
  canon_tiles x h using cover
  case piece0 =>
    pointwise [k0_pay5, HB]
    rw [if_neg (by omega)]
    blk_point [iblk, V, idx t]
  all_goals
    pointwise [HB]
    by_cases h0 : t.val / 11 % 4 = 0
    · rw [if_pos h0, if_pos (by omega)]
    · rw [if_neg h0, if_neg (by omega)]
      blk_point [iblk, V, idx t]

/-- The products of every position with both halves of the up weights, two zero rows before each sequence. -/
def U (A : FVec Ideal S8192x2048 .bf16) (W : FVec Ideal S2x2048x11264 .f32) : FVec Ideal Cert.UpRefIdeal.S2x4098x11264 .f32 :=
  concatenate Cert.UpRefIdeal.S2x4098x11264 1 [⟨Cert.UpRefIdeal.S2x2x11264, (broadcastInDim Cert.UpRefIdeal.S2x2x11264 ![] Cert.UpRefIdeal.Gen.bcast_S_S2x2x11264 (constant Cert.UpRefIdeal.S_ .f32 0x00000000#32))⟩,
    ⟨Cert.UpRefIdeal.S2x4096x11264, (Host.dotGeneral Cert.UpRefIdeal.dot_S2x4096x2048_S2048x11264_S2x4096x11264_2_0_01_1_n_n none
      (extf .f32 (shapeCast _ A Cert.UpRefIdeal.Gen.shapeCasts_S8192x2048_S2x4096x2048) Cert.UpRefIdeal.Gen.bitsLt_bf16_f32)
      (shapeCast _ (extractStridedSlice Cert.UpRefIdeal.S1x2048x11264 ![0, 0, 0] W Cert.UpRefIdeal.Gen.slices_S2x2048x11264_S1x2048x11264_0_0_0) Cert.UpRefIdeal.Gen.shapeCasts_S1x2048x11264_S2048x11264))⟩]
    Cert.UpRefIdeal.Gen.concatenates_S2x2x11264_S2x4096x11264_S2x4098x11264_d1

/-- The reference's activations, from the padded products `u`. -/
abbrev ACT (u : FVec Ideal Cert.UpRefIdeal.S2x4098x11264 .f32) (CW : FVec Ideal S2x3x11264 .f32) (CB : FVec Ideal S2x11264 .f32) :
    FVec Ideal S8192x5632 .bf16 :=
  shapeCast _ (truncf .bf16 (mulf (mulf (extractStridedSlice Cert.UpRefIdeal.S2x4096x5632 ![0, 0, 0] (addf (addf (addf (broadcastInDim Cert.UpRefIdeal.S2x4096x11264 ![0, 1, 2] Cert.UpRefIdeal.Gen.bcast_S1x1x11264_S2x4096x11264_0_1_2 (broadcastInDim Cert.UpRefIdeal.S1x1x11264 ![2] Cert.UpRefIdeal.Gen.bcast_S11264_S1x1x11264_2 (shapeCast _ (extractStridedSlice Cert.UpRefIdeal.S1x11264 ![0, 0] CB Cert.UpRefIdeal.Gen.slices_S2x11264_S1x11264_0_0) Cert.UpRefIdeal.Gen.shapeCasts_S1x11264_S11264))) (mulf (extractStridedSlice Cert.UpRefIdeal.S2x4096x11264 ![0, 0, 0] u Cert.UpRefIdeal.Gen.slices_S2x4098x11264_S2x4096x11264_0_0_0) (broadcastInDim Cert.UpRefIdeal.S2x4096x11264 ![0, 1, 2] Cert.UpRefIdeal.Gen.bcast_S1x1x11264_S2x4096x11264_0_1_2 (broadcastInDim Cert.UpRefIdeal.S1x1x11264 ![2] Cert.UpRefIdeal.Gen.bcast_S11264_S1x1x11264_2 (shapeCast _ (extractStridedSlice Cert.UpRefIdeal.S1x1x11264 ![0, 0, 0] CW Cert.UpRefIdeal.Gen.slices_S2x3x11264_S1x1x11264_0_0_0) Cert.UpRefIdeal.Gen.shapeCasts_S1x1x11264_S11264))))) (mulf (extractStridedSlice Cert.UpRefIdeal.S2x4096x11264 ![0, 1, 0] u Cert.UpRefIdeal.Gen.slices_S2x4098x11264_S2x4096x11264_0_1_0) (broadcastInDim Cert.UpRefIdeal.S2x4096x11264 ![0, 1, 2] Cert.UpRefIdeal.Gen.bcast_S1x1x11264_S2x4096x11264_0_1_2 (broadcastInDim Cert.UpRefIdeal.S1x1x11264 ![2] Cert.UpRefIdeal.Gen.bcast_S11264_S1x1x11264_2 (shapeCast _ (extractStridedSlice Cert.UpRefIdeal.S1x1x11264 ![0, 1, 0] CW Cert.UpRefIdeal.Gen.slices_S2x3x11264_S1x1x11264_0_1_0) Cert.UpRefIdeal.Gen.shapeCasts_S1x1x11264_S11264))))) (mulf (extractStridedSlice Cert.UpRefIdeal.S2x4096x11264 ![0, 2, 0] u Cert.UpRefIdeal.Gen.slices_S2x4098x11264_S2x4096x11264_0_2_0) (broadcastInDim Cert.UpRefIdeal.S2x4096x11264 ![0, 1, 2] Cert.UpRefIdeal.Gen.bcast_S1x1x11264_S2x4096x11264_0_1_2 (broadcastInDim Cert.UpRefIdeal.S1x1x11264 ![2] Cert.UpRefIdeal.Gen.bcast_S11264_S1x1x11264_2 (shapeCast _ (extractStridedSlice Cert.UpRefIdeal.S1x1x11264 ![0, 2, 0] CW Cert.UpRefIdeal.Gen.slices_S2x3x11264_S1x1x11264_0_2_0) Cert.UpRefIdeal.Gen.shapeCasts_S1x1x11264_S11264))))) Cert.UpRefIdeal.Gen.slices_S2x4096x11264_S2x4096x5632_0_0_0) (Host.divf (broadcastInDim Cert.UpRefIdeal.S2x4096x5632 ![] Cert.UpRefIdeal.Gen.bcast_S_S2x4096x5632 (constant Cert.UpRefIdeal.S_ .f32 0x3F800000#32)) (addf (broadcastInDim Cert.UpRefIdeal.S2x4096x5632 ![] Cert.UpRefIdeal.Gen.bcast_S_S2x4096x5632 (constant Cert.UpRefIdeal.S_ .f32 0x3F800000#32)) (Host.exp (Host.negf (extractStridedSlice Cert.UpRefIdeal.S2x4096x5632 ![0, 0, 0] (addf (addf (addf (broadcastInDim Cert.UpRefIdeal.S2x4096x11264 ![0, 1, 2] Cert.UpRefIdeal.Gen.bcast_S1x1x11264_S2x4096x11264_0_1_2 (broadcastInDim Cert.UpRefIdeal.S1x1x11264 ![2] Cert.UpRefIdeal.Gen.bcast_S11264_S1x1x11264_2 (shapeCast _ (extractStridedSlice Cert.UpRefIdeal.S1x11264 ![0, 0] CB Cert.UpRefIdeal.Gen.slices_S2x11264_S1x11264_0_0) Cert.UpRefIdeal.Gen.shapeCasts_S1x11264_S11264))) (mulf (extractStridedSlice Cert.UpRefIdeal.S2x4096x11264 ![0, 0, 0] u Cert.UpRefIdeal.Gen.slices_S2x4098x11264_S2x4096x11264_0_0_0) (broadcastInDim Cert.UpRefIdeal.S2x4096x11264 ![0, 1, 2] Cert.UpRefIdeal.Gen.bcast_S1x1x11264_S2x4096x11264_0_1_2 (broadcastInDim Cert.UpRefIdeal.S1x1x11264 ![2] Cert.UpRefIdeal.Gen.bcast_S11264_S1x1x11264_2 (shapeCast _ (extractStridedSlice Cert.UpRefIdeal.S1x1x11264 ![0, 0, 0] CW Cert.UpRefIdeal.Gen.slices_S2x3x11264_S1x1x11264_0_0_0) Cert.UpRefIdeal.Gen.shapeCasts_S1x1x11264_S11264))))) (mulf (extractStridedSlice Cert.UpRefIdeal.S2x4096x11264 ![0, 1, 0] u Cert.UpRefIdeal.Gen.slices_S2x4098x11264_S2x4096x11264_0_1_0) (broadcastInDim Cert.UpRefIdeal.S2x4096x11264 ![0, 1, 2] Cert.UpRefIdeal.Gen.bcast_S1x1x11264_S2x4096x11264_0_1_2 (broadcastInDim Cert.UpRefIdeal.S1x1x11264 ![2] Cert.UpRefIdeal.Gen.bcast_S11264_S1x1x11264_2 (shapeCast _ (extractStridedSlice Cert.UpRefIdeal.S1x1x11264 ![0, 1, 0] CW Cert.UpRefIdeal.Gen.slices_S2x3x11264_S1x1x11264_0_1_0) Cert.UpRefIdeal.Gen.shapeCasts_S1x1x11264_S11264))))) (mulf (extractStridedSlice Cert.UpRefIdeal.S2x4096x11264 ![0, 2, 0] u Cert.UpRefIdeal.Gen.slices_S2x4098x11264_S2x4096x11264_0_2_0) (broadcastInDim Cert.UpRefIdeal.S2x4096x11264 ![0, 1, 2] Cert.UpRefIdeal.Gen.bcast_S1x1x11264_S2x4096x11264_0_1_2 (broadcastInDim Cert.UpRefIdeal.S1x1x11264 ![2] Cert.UpRefIdeal.Gen.bcast_S11264_S1x1x11264_2 (shapeCast _ (extractStridedSlice Cert.UpRefIdeal.S1x1x11264 ![0, 2, 0] CW Cert.UpRefIdeal.Gen.slices_S2x3x11264_S1x1x11264_0_2_0) Cert.UpRefIdeal.Gen.shapeCasts_S1x1x11264_S11264))))) Cert.UpRefIdeal.Gen.slices_S2x4096x11264_S2x4096x5632_0_0_0)))))) (extractStridedSlice Cert.UpRefIdeal.S2x4096x5632 ![0, 0, 5632] (addf (addf (addf (broadcastInDim Cert.UpRefIdeal.S2x4096x11264 ![0, 1, 2] Cert.UpRefIdeal.Gen.bcast_S1x1x11264_S2x4096x11264_0_1_2 (broadcastInDim Cert.UpRefIdeal.S1x1x11264 ![2] Cert.UpRefIdeal.Gen.bcast_S11264_S1x1x11264_2 (shapeCast _ (extractStridedSlice Cert.UpRefIdeal.S1x11264 ![0, 0] CB Cert.UpRefIdeal.Gen.slices_S2x11264_S1x11264_0_0) Cert.UpRefIdeal.Gen.shapeCasts_S1x11264_S11264))) (mulf (extractStridedSlice Cert.UpRefIdeal.S2x4096x11264 ![0, 0, 0] u Cert.UpRefIdeal.Gen.slices_S2x4098x11264_S2x4096x11264_0_0_0) (broadcastInDim Cert.UpRefIdeal.S2x4096x11264 ![0, 1, 2] Cert.UpRefIdeal.Gen.bcast_S1x1x11264_S2x4096x11264_0_1_2 (broadcastInDim Cert.UpRefIdeal.S1x1x11264 ![2] Cert.UpRefIdeal.Gen.bcast_S11264_S1x1x11264_2 (shapeCast _ (extractStridedSlice Cert.UpRefIdeal.S1x1x11264 ![0, 0, 0] CW Cert.UpRefIdeal.Gen.slices_S2x3x11264_S1x1x11264_0_0_0) Cert.UpRefIdeal.Gen.shapeCasts_S1x1x11264_S11264))))) (mulf (extractStridedSlice Cert.UpRefIdeal.S2x4096x11264 ![0, 1, 0] u Cert.UpRefIdeal.Gen.slices_S2x4098x11264_S2x4096x11264_0_1_0) (broadcastInDim Cert.UpRefIdeal.S2x4096x11264 ![0, 1, 2] Cert.UpRefIdeal.Gen.bcast_S1x1x11264_S2x4096x11264_0_1_2 (broadcastInDim Cert.UpRefIdeal.S1x1x11264 ![2] Cert.UpRefIdeal.Gen.bcast_S11264_S1x1x11264_2 (shapeCast _ (extractStridedSlice Cert.UpRefIdeal.S1x1x11264 ![0, 1, 0] CW Cert.UpRefIdeal.Gen.slices_S2x3x11264_S1x1x11264_0_1_0) Cert.UpRefIdeal.Gen.shapeCasts_S1x1x11264_S11264))))) (mulf (extractStridedSlice Cert.UpRefIdeal.S2x4096x11264 ![0, 2, 0] u Cert.UpRefIdeal.Gen.slices_S2x4098x11264_S2x4096x11264_0_2_0) (broadcastInDim Cert.UpRefIdeal.S2x4096x11264 ![0, 1, 2] Cert.UpRefIdeal.Gen.bcast_S1x1x11264_S2x4096x11264_0_1_2 (broadcastInDim Cert.UpRefIdeal.S1x1x11264 ![2] Cert.UpRefIdeal.Gen.bcast_S11264_S1x1x11264_2 (shapeCast _ (extractStridedSlice Cert.UpRefIdeal.S1x1x11264 ![0, 2, 0] CW Cert.UpRefIdeal.Gen.slices_S2x3x11264_S1x1x11264_0_2_0) Cert.UpRefIdeal.Gen.shapeCasts_S1x1x11264_S11264))))) Cert.UpRefIdeal.Gen.slices_S2x4096x11264_S2x4096x5632_0_0_5632)) Cert.UpRefIdeal.Gen.bitsLt_bf16_f32) Cert.UpRefIdeal.Gen.shapeCasts_S2x4096x5632_S8192x5632

set_option maxHeartbeats 1600000 in
/-- A row of the first product in a tile is the row of the padded products two places on. -/
theorem gate_at (c : Dev nD) (t : Fin cfg0.N) (r : Fin 1040) (e : Fin 512) (b : Fin 2) (s : Fin 4098) (E : Fin 11264)
    (hr : 14 ≤ r.val) (hb : b.val = t.val / 44) (hs : s.val + 14 = 1024 * (t.val / 11 % 4) + r.val)
    (hE : E.val = 512 * (t.val % 11) + e.val) :
    k0_pay6 (F := Ideal) (HB (m ((c : Thread nD τ).loc main_arg0)) (t.val / 11)) (iblk m c 2 t) (ix2 r e)
      = U (m ((c : Thread nD τ).loc main_arg0)) (m ((c : Thread nD τ).loc main_arg1)) (ix3 b s E) := by
  have ht : t.val < 88 := lt_of_lt_of_eq t.isLt (by decide)
  pointwise [k0_pay6, HB, U]
  by_cases h : s.val < 2
  · rw [dif_pos h]
    refine Finset.sum_eq_zero fun x _ => ?_
    rw [if_pos (by omega), zero_mul]
  · rw [dif_neg h]
    refine Finset.sum_congr rfl fun x _ => ?_
    rw [if_neg (by omega)]
    blk_point [iblk, V, idx t]

set_option maxHeartbeats 1600000 in
/-- A row of the second product in a tile is the row of the padded products two places on. -/
theorem val_at (c : Dev nD) (t : Fin cfg0.N) (r : Fin 1040) (e : Fin 512) (b : Fin 2) (s : Fin 4098) (E : Fin 11264)
    (hr : 14 ≤ r.val) (hb : b.val = t.val / 44) (hs : s.val + 14 = 1024 * (t.val / 11 % 4) + r.val)
    (hE : E.val = 5632 + 512 * (t.val % 11) + e.val) :
    k0_pay7 (F := Ideal) (HB (m ((c : Thread nD τ).loc main_arg0)) (t.val / 11)) (iblk m c 3 t) (ix2 r e)
      = U (m ((c : Thread nD τ).loc main_arg0)) (m ((c : Thread nD τ).loc main_arg1)) (ix3 b s E) := by
  have ht : t.val < 88 := lt_of_lt_of_eq t.isLt (by decide)
  pointwise [k0_pay7, HB, U]
  by_cases h : s.val < 2
  · rw [dif_pos h]
    refine Finset.sum_eq_zero fun x _ => ?_
    rw [if_pos (by omega), zero_mul]
  · rw [dif_neg h]
    refine Finset.sum_congr rfl fun x _ => ?_
    rw [if_neg (by omega)]
    blk_point [iblk, V, idx t]

/-- What a point stores in the activations' block, from the two products `G` and `H` of its rows. -/
abbrev act (G H : FVec Ideal S1040x512 .f32) (x4 x5 : FVec Ideal S1x3x512 .f32) (x6 x7 : FVec Ideal S1x1x512 .f32) : FVec Ideal S1024x512 .bf16 :=
  k0_pay1 (F := Ideal) (k0_pay9 (F := Ideal) (k0_pay8 (F := Ideal) x6 (View.ld (Val := Elt Ideal) (e' := .f32) G (Rect.unit ![14, 0] ![1024, 512] Gen.inb_S1040x512_S1024x512_14_0)) (View.ld (Val := Elt Ideal) (e' := .f32) x4 (Rect.unit ![0, 0, 0] ![1, 1, 512] Gen.inb_S1x3x512_S1x1x512_0_0_0)))
    (View.ld (Val := Elt Ideal) (e' := .f32) G (Rect.unit ![15, 0] ![1024, 512] Gen.inb_S1040x512_S1024x512_15_0)) (View.ld (Val := Elt Ideal) (e' := .f32) x4 (Rect.unit ![0, 1, 0] ![1, 1, 512] Gen.inb_S1x3x512_S1x1x512_0_1_0))
    (View.ld (Val := Elt Ideal) (e' := .f32) G (Rect.unit ![16, 0] ![1024, 512] Gen.inb_S1040x512_S1024x512_16_0)) (View.ld (Val := Elt Ideal) (e' := .f32) x4 (Rect.unit ![0, 2, 0] ![1, 1, 512] Gen.inb_S1x3x512_S1x1x512_0_2_0))
    x7 (View.ld (Val := Elt Ideal) (e' := .f32) H (Rect.unit ![14, 0] ![1024, 512] Gen.inb_S1040x512_S1024x512_14_0)) (View.ld (Val := Elt Ideal) (e' := .f32) x5 (Rect.unit ![0, 0, 0] ![1, 1, 512] Gen.inb_S1x3x512_S1x1x512_0_0_0))
    (View.ld (Val := Elt Ideal) (e' := .f32) H (Rect.unit ![15, 0] ![1024, 512] Gen.inb_S1040x512_S1024x512_15_0)) (View.ld (Val := Elt Ideal) (e' := .f32) x5 (Rect.unit ![0, 1, 0] ![1, 1, 512] Gen.inb_S1x3x512_S1x1x512_0_1_0))
    (View.ld (Val := Elt Ideal) (e' := .f32) H (Rect.unit ![16, 0] ![1024, 512] Gen.inb_S1040x512_S1024x512_16_0)) (View.ld (Val := Elt Ideal) (e' := .f32) x5 (Rect.unit ![0, 2, 0] ![1, 1, 512] Gen.inb_S1x3x512_S1x1x512_0_2_0)))

/-- The activations at one place: the products three places running and the convolution's weights decide them. -/
theorem core (G H : FVec Ideal S1040x512 .f32) (x4 x5 : FVec Ideal S1x3x512 .f32) (x6 x7 : FVec Ideal S1x1x512 .f32)
    (u : FVec Ideal Cert.UpRefIdeal.S2x4098x11264 .f32) (CW : FVec Ideal S2x3x11264 .f32) (CB : FVec Ideal S2x11264 .f32)
    (y : S1024x512.Idx) (z : S8192x5632.Idx)
    (hG : ∀ j : Fin 3, G (ix2 ⟨14 + j.val + (y 0).val, by have := (y 0).isLt; have : (y 0).val < 1024 := this; omega⟩ (y 1))
      = u (ix3 ⟨(z 0).val / 4096, by have : (z 0).val < 8192 := (z 0).isLt; omega⟩ ⟨j.val + (z 0).val % 4096, by omega⟩
          ⟨(z 1).val, by have : (z 1).val < 5632 := (z 1).isLt; omega⟩))
    (hH : ∀ j : Fin 3, H (ix2 ⟨14 + j.val + (y 0).val, by have := (y 0).isLt; have : (y 0).val < 1024 := this; omega⟩ (y 1))
      = u (ix3 ⟨(z 0).val / 4096, by have : (z 0).val < 8192 := (z 0).isLt; omega⟩ ⟨j.val + (z 0).val % 4096, by omega⟩
          ⟨5632 + (z 1).val, by have : (z 1).val < 5632 := (z 1).isLt; omega⟩))
    (h4 : ∀ j : Fin 3, x4 (ix3 0 j (y 1)) = CW (ix3 0 j ⟨(z 1).val, by have : (z 1).val < 5632 := (z 1).isLt; omega⟩))
    (h5 : ∀ j : Fin 3, x5 (ix3 0 j (y 1)) = CW (ix3 0 j ⟨5632 + (z 1).val, by have : (z 1).val < 5632 := (z 1).isLt; omega⟩))
    (h6 : x6 (ix3 0 0 (y 1)) = CB (ix2 0 ⟨(z 1).val, by have : (z 1).val < 5632 := (z 1).isLt; omega⟩))
    (h7 : x7 (ix3 0 0 (y 1)) = CB (ix2 0 ⟨5632 + (z 1).val, by have : (z 1).val < 5632 := (z 1).isLt; omega⟩)) :
    act G H x4 x5 x6 x7 y = ACT u CW CB z := by
  have g0 := hG 0
  have g1 := hG 1
  have g2 := hG 2
  have k0 := hH 0
  have k1 := hH 1
  have k2 := hH 2
  pointwise [k0_pay1, k0_pay8, k0_pay9, ACT]
  simp only [Fin.val_zero, Fin.val_one, Fin.val_two, Nat.add_zero, Nat.zero_add, Nat.reduceAdd] at g0 g1 g2 k0 k1 k2
  simp only [g0, g1, g2, k0, k1, k2, h4, h5, h6, h7, Ideal.logistic]

/-- The convolution's weights of the first half in a block. -/
theorem w4 (c : Dev nD) (t : Fin cfg0.N) (j : Fin 3) (e : Fin 512) (E : Fin 11264) (hE : E.val = 512 * (t.val % 11) + e.val) :
    iblk m c 4 t (ix3 0 j e) = m ((c : Thread nD τ).loc main_arg2) (ix3 0 j E) := by
  blk_point [iblk, V, idx t]

/-- The convolution's weights of the second half in a block. -/
theorem w5 (c : Dev nD) (t : Fin cfg0.N) (j : Fin 3) (e : Fin 512) (E : Fin 11264) (hE : E.val = 5632 + 512 * (t.val % 11) + e.val) :
    iblk m c 5 t (ix3 0 j e) = m ((c : Thread nD τ).loc main_arg2) (ix3 0 j E) := by
  blk_point [iblk, V, idx t]

/-- The bias as the launch finds it: the given one with an axis put in. -/
theorem V_v0 (c : Dev nD) : V0 m c (Proc.tc.devRef main_v0)
    = shapeCast S2x1x11264 (m ((c : Thread nD τ).loc main_arg3)) Gen.shapeCasts_S2x11264_S2x1x11264 := by
  show StableHlo.after [hostOps0].flatten (fun b => m (c, b)) (Proc.tc.devRef main_v0) = _
  rfl

/-- The bias with an axis put in, read at an index. -/
theorem bias_at (B : FVec Ideal S2x11264 .f32) (p : S2x1x11264.Idx) (E : Fin 11264) (h0 : (p 0).val = 0) (h2 : (p 2).val = E.val) :
    shapeCast S2x1x11264 B Gen.shapeCasts_S2x11264_S2x1x11264 p = B (ix2 0 E) := by
  pointwise []
  blk_ext

/-- The bias of the first half in a block. -/
theorem w6 (c : Dev nD) (t : Fin cfg0.N) (e : Fin 512) (E : Fin 11264) (hE : E.val = 512 * (t.val % 11) + e.val) :
    iblk m c 6 t (ix3 0 0 e) = m ((c : Thread nD τ).loc main_arg3) (ix2 0 E) := by
  refine (congrFun (V_v0 m c) ((win0_6.blk t).view.emb (ix3 0 0 e))).trans (bias_at _ _ _ ?_ ?_)
  all_goals (blk_simp [idx t] <;> try omega)

/-- The bias of the second half in a block. -/
theorem w7 (c : Dev nD) (t : Fin cfg0.N) (e : Fin 512) (E : Fin 11264) (hE : E.val = 5632 + 512 * (t.val % 11) + e.val) :
    iblk m c 7 t (ix3 0 0 e) = m ((c : Thread nD τ).loc main_arg3) (ix2 0 E) := by
  refine (congrFun (V_v0 m c) ((win0_7.blk t).view.emb (ix3 0 0 e))).trans (bias_at _ _ _ ?_ ?_)
  all_goals (blk_simp [idx t] <;> try omega)

/-- Where a block of the activations sits. -/
theorem emb8 (t : Fin cfg0.N) (y) : ((((cfg0.win 8).blk t).view.emb y) 0).val = 1024 * (t.val / 11) + (y 0).val
    ∧ ((((cfg0.win 8).blk t).view.emb y) 1).val = 512 * (t.val % 11) + (y 1).val := by
  constructor <;> (blk_simp [idx t] <;> try omega)

/-- What grid point `t` stores of the activations at index `y` of its block is the reference's at the index `y` sits at. -/
theorem point8 (c : Dev nD) (t : Fin cfg0.N) (y : S1024x512.Idx) :
    act (k0_pay6 (HB (m ((c : Thread nD τ).loc main_arg0)) (t.val / 11)) (iblk m c 2 t))
        (k0_pay7 (HB (m ((c : Thread nD τ).loc main_arg0)) (t.val / 11)) (iblk m c 3 t))
        (iblk m c 4 t) (iblk m c 5 t) (iblk m c 6 t) (iblk m c 7 t) y
      = ACT (U (m ((c : Thread nD τ).loc main_arg0)) (m ((c : Thread nD τ).loc main_arg1)))
          (m ((c : Thread nD τ).loc main_arg2)) (m ((c : Thread nD τ).loc main_arg3)) (((cfg0.win 8).blk t).view.emb y) := by
  have ht : t.val < 88 := lt_of_lt_of_eq t.isLt (by decide)
  obtain ⟨h0, h1⟩ := emb8 t y
  have b0 : (y 0).val < 1024 := (y 0).isLt
  have b1 : (y 1).val < 512 := (y 1).isLt
  refine core _ _ _ _ _ _ _ _ _ y (((cfg0.win 8).blk t).view.emb y) (fun j => ?_) (fun j => ?_) (fun j => ?_) (fun j => ?_) ?_ ?_
  · refine gate_at m c t _ _ _ _ _ ?_ ?_ ?_ ?_
    all_goals (try simp only [h0, h1]) <;> omega
  · refine val_at m c t _ _ _ _ _ ?_ ?_ ?_ ?_
    all_goals (try simp only [h0, h1]) <;> omega
  · exact w4 m c t j _ _ h1
  · refine w5 m c t j _ _ ?_
    simp only [h1]; omega
  · exact w6 m c t _ _ h1
  · refine w7 m c t _ _ ?_
    simp only [h1]; omega

/-- The row buffer after each grid point holds the tile's rows. -/
theorem carried (c : Dev nD) : ∀ (n : ℕ) (h : n < cfg0.N), (outsAt0 m c n h).2.2.2 = HB (m ((c : Thread nD τ).loc main_arg0)) (n / 11)
  | n, h => by
    by_cases h0 : n % 11 = 0
    · rw [outsAt0_A m c ⟨n, h⟩ h0]
      dsimp only
      frame_out
      exact rows m c ⟨n, h⟩
    · have hp : 0 < n := by omega
      have e := carried c (n - 1) (by omega)
      rw [outsAt0_B m c ⟨n, h⟩ h0]
      dsimp only
      unfold sout0_B_0
      rw [e, show (n - 1) / 11 = n / 11 by omega]
  termination_by n => n

/-- What the body reads from the row buffer after its two stores into it. -/
theorem seen (c : Dev nD) (t : Fin cfg0.N) (v : View sig .tc .vmem S1040x2048 .bf16) : v.readCov
      [(⟨Rect.unit ![16, 0] ![1024, 2048] Gen.inb_S1040x2048_S1024x2048_16_0, k0_pay5 (iblk m c 0 t)⟩ : View.Piece (Elt Ideal) S1040x2048 .bf16),
        ⟨Rect.unit ![0, 0] ![16, 2048] Gen.inb_S1040x2048_S16x2048_0_0, k0_pay4 (grid0.coords t) (iblk m c 1 t)⟩]
      (Rect.unit ![0, 0] ![1040, 2048] Gen.inb_S1040x2048_S1040x2048_0_0).toLoadRect =
    HB (m ((c : Thread nD τ).loc main_arg0)) (t.val / 11) := by
  rw [View.readCov_eq_canon', rows]
  generalize HB (m ((c : Thread nD τ).loc main_arg0)) (t.val / 11) = H
  funext y
  pointwise []
  blk_ext

/-- What a grid point leaves in its three result blocks. -/
theorem outs (c : Dev nD) (t : Fin cfg0.N) :
    (outsAt0 m c t.val t.isLt).1 = act (k0_pay6 (HB (m ((c : Thread nD τ).loc main_arg0)) (t.val / 11)) (iblk m c 2 t))
        (k0_pay7 (HB (m ((c : Thread nD τ).loc main_arg0)) (t.val / 11)) (iblk m c 3 t))
        (iblk m c 4 t) (iblk m c 5 t) (iblk m c 6 t) (iblk m c 7 t)
    ∧ (outsAt0 m c t.val t.isLt).2.1 = k0_pay2 (View.ld (Val := Elt Ideal) (e' := .f32) (k0_pay6 (F := Ideal) (HB (m ((c : Thread nD τ).loc main_arg0)) (t.val / 11)) (iblk m c 2 t))
        (Rect.unit ![1038, 0] ![2, 512] Gen.inb_S1040x512_S2x512_1038_0))
    ∧ (outsAt0 m c t.val t.isLt).2.2.1 = k0_pay3 (View.ld (Val := Elt Ideal) (e' := .f32) (k0_pay7 (F := Ideal) (HB (m ((c : Thread nD τ).loc main_arg0)) (t.val / 11)) (iblk m c 3 t))
        (Rect.unit ![1038, 0] ![2, 512] Gen.inb_S1040x512_S2x512_1038_0)) := by
  by_cases h0 : t.val % 11 = 0
  · rw [outsAt0_A m c t h0]
    dsimp only
    refine ⟨?_, ?_, ?_⟩ <;> (frame_out; simp only [seen, rd])
  · have e : ∀ h, (outsAt0 m c (t.val - 1) h).2.2.2 = _ := carried m c (t.val - 1)
    rw [show (t.val - 1) / 11 = t.val / 11 by omega] at e
    rw [outsAt0_B m c t h0]
    dsimp only
    refine ⟨?_, ?_, ?_⟩ <;> (frame_out; simp only [e, rd, read_unread_whole])

/-- The rows of a product every tile keeps, from the padded products. -/
abbrev KEPT (o : ℕ) (ho : o ≤ 5632) (u : FVec Ideal Cert.UpRefIdeal.S2x4098x11264 .f32) : FVec Ideal S8x2x5632 .f32 := fun y =>
  u (ix3 ⟨(y 0).val / 4, by have : (y 0).val < 8 := (y 0).isLt; omega⟩
    ⟨1024 * ((y 0).val % 4) + 1024 + (y 1).val, by have : (y 1).val < 2 := (y 1).isLt; omega⟩
    ⟨o + (y 2).val, by have : (y 2).val < 5632 := (y 2).isLt; omega⟩)

/-- What a grid point stores of the first product's kept rows. -/
theorem point9 (c : Dev nD) (t : Fin cfg0.N) (y : S1x2x512.Idx) :
    k0_pay2 (View.ld (Val := Elt Ideal) (e' := .f32) (k0_pay6 (F := Ideal) (HB (m ((c : Thread nD τ).loc main_arg0)) (t.val / 11)) (iblk m c 2 t))
        (Rect.unit ![1038, 0] ![2, 512] Gen.inb_S1040x512_S2x512_1038_0)) y
      = KEPT 0 (by decide) (U (m ((c : Thread nD τ).loc main_arg0)) (m ((c : Thread nD τ).loc main_arg1))) (((cfg0.win 9).blk t).view.emb y) := by
  have ht : t.val < 88 := lt_of_lt_of_eq t.isLt (by decide)
  have h0 : ((((cfg0.win 9).blk t).view.emb y) 0).val = t.val / 11 + (y 0).val := by blk_simp [idx t] <;> try omega
  have h1 : ((((cfg0.win 9).blk t).view.emb y) 1).val = (y 1).val := by blk_simp [idx t] <;> try omega
  have h2 : ((((cfg0.win 9).blk t).view.emb y) 2).val = 512 * (t.val % 11) + (y 2).val := by blk_simp [idx t] <;> try omega
  have b0 : (y 0).val < 1 := (y 0).isLt
  have b1 : (y 1).val < 2 := (y 1).isLt
  have b2 : (y 2).val < 512 := (y 2).isLt
  generalize ((cfg0.win 9).blk t).view.emb y = z at *
  refine Eq.trans (b := k0_pay6 (F := Ideal) (HB (m ((c : Thread nD τ).loc main_arg0)) (t.val / 11)) (iblk m c 2 t) (ix2 ⟨1038 + (y 1).val, by omega⟩ (y 2))) ?_ (gate_at m c t _ _ _ _ _ ?_ ?_ ?_ ?_)
  · generalize k0_pay6 (F := Ideal) (HB (m ((c : Thread nD τ).loc main_arg0)) (t.val / 11)) (iblk m c 2 t) = G
    pointwise [k0_pay2]
    blk_ext
  all_goals (try simp only [h0, h1, h2]) <;> omega

/-- What a grid point stores of the second product's kept rows. -/
theorem point10 (c : Dev nD) (t : Fin cfg0.N) (y : S1x2x512.Idx) :
    k0_pay3 (View.ld (Val := Elt Ideal) (e' := .f32) (k0_pay7 (F := Ideal) (HB (m ((c : Thread nD τ).loc main_arg0)) (t.val / 11)) (iblk m c 3 t))
        (Rect.unit ![1038, 0] ![2, 512] Gen.inb_S1040x512_S2x512_1038_0)) y
      = KEPT 5632 (by decide) (U (m ((c : Thread nD τ).loc main_arg0)) (m ((c : Thread nD τ).loc main_arg1))) (((cfg0.win 10).blk t).view.emb y) := by
  have ht : t.val < 88 := lt_of_lt_of_eq t.isLt (by decide)
  have h0 : ((((cfg0.win 10).blk t).view.emb y) 0).val = t.val / 11 + (y 0).val := by blk_simp [idx t] <;> try omega
  have h1 : ((((cfg0.win 10).blk t).view.emb y) 1).val = (y 1).val := by blk_simp [idx t] <;> try omega
  have h2 : ((((cfg0.win 10).blk t).view.emb y) 2).val = 512 * (t.val % 11) + (y 2).val := by blk_simp [idx t] <;> try omega
  have b0 : (y 0).val < 1 := (y 0).isLt
  have b1 : (y 1).val < 2 := (y 1).isLt
  have b2 : (y 2).val < 512 := (y 2).isLt
  generalize ((cfg0.win 10).blk t).view.emb y = z at *
  refine Eq.trans (b := k0_pay7 (F := Ideal) (HB (m ((c : Thread nD τ).loc main_arg0)) (t.val / 11)) (iblk m c 3 t) (ix2 ⟨1038 + (y 1).val, by omega⟩ (y 2))) ?_ (val_at m c t _ _ _ _ _ ?_ ?_ ?_ ?_)
  · generalize k0_pay7 (F := Ideal) (HB (m ((c : Thread nD τ).loc main_arg0)) (t.val / 11)) (iblk m c 3 t) = G
    pointwise [k0_pay3]
    blk_ext
  all_goals (try simp only [h0, h1, h2]) <;> omega

/-- The activations after the run are the reference's. -/
theorem final8 (c : Dev nD) : (dats m 0 c).arrAt 8 (cfgs 0).N
    = ACT (U (m ((c : Thread nD τ).loc main_arg0)) (m ((c : Thread nD τ).loc main_arg1)))
          (m ((c : Thread nD τ).loc main_arg2)) (m ((c : Thread nD τ).loc main_arg3)) := by
  refine (dats m 0 c).arrAt_eq_of_covers 8 _ (by decide +kernel) fun t _ y => ?_
  blk_simp
  rw [after0_8, (outs m c t).1]
  exact point8 m c t y

/-- The first product's kept rows after the run. -/
theorem final9 (c : Dev nD) : (dats m 0 c).arrAt 9 (cfgs 0).N
    = KEPT 0 (by decide) (U (m ((c : Thread nD τ).loc main_arg0)) (m ((c : Thread nD τ).loc main_arg1))) := by
  refine (dats m 0 c).arrAt_eq_of_covers 9 _ (by decide +kernel) fun t _ y => ?_
  blk_simp
  rw [after0_9, (outs m c t).2.1]
  exact point9 m c t y

/-- The second product's kept rows after the run. -/
theorem final10 (c : Dev nD) : (dats m 0 c).arrAt 10 (cfgs 0).N
    = KEPT 5632 (by decide) (U (m ((c : Thread nD τ).loc main_arg0)) (m ((c : Thread nD τ).loc main_arg1))) := by
  refine (dats m 0 c).arrAt_eq_of_covers 10 _ (by decide +kernel) fun t _ y => ?_
  blk_simp
  rw [after0_10, (outs m c t).2.2]
  exact point10 m c t y

/-- The host line after the launch leaves the bias argument alone. -/
theorem tail_arg3 (c : Dev nD) : Pipeline.afterTail₀ cfgs (dats m) 0 (V0 m) [hostOps1] c main_arg3 = m ((c : Thread nD τ).loc main_arg3) := by
  have h : ∀ W : Valuation τ sig (Elt Ideal), StableHlo.after [hostOps1].flatten W (Proc.tc.devRef main_arg3) = W (Proc.tc.devRef main_arg3) := fun W => rfl
  unfold Pipeline.afterTail₀
  rw [h, Pipeline.withArrays_of_ne (cfgs 0).spec c (V0 m c) _ main_arg3 (by decide)]
  rfl

/-- The host line after the launch takes every fourth tile's kept rows of the first product. -/
theorem tail_v2 (c : Dev nD) : Pipeline.afterTail₀ cfgs (dats m) 0 (V0 m) [hostOps1] c main_v2
    = Host.slice S2x2x5632 ![3, 0, 0] ![4, 1, 1] ((dats m 0 c).arrAt 9 (cfgs 0).N) Gen.slicesBy_S8x2x5632_S2x2x5632_3s4_0s1_0s1 := by
  have h : ∀ W : Valuation τ sig (Elt Ideal), StableHlo.after [hostOps1].flatten W (Proc.tc.devRef main_v2)
    = Host.slice S2x2x5632 ![3, 0, 0] ![4, 1, 1] (W (Proc.tc.devRef main_v1_1)) Gen.slicesBy_S8x2x5632_S2x2x5632_3s4_0s1_0s1 := fun W => rfl
  unfold Pipeline.afterTail₀
  rw [h]
  exact congrArg (Host.slice S2x2x5632 ![3, 0, 0] ![4, 1, 1] · Gen.slicesBy_S8x2x5632_S2x2x5632_3s4_0s1_0s1)
    ((dats m 0 c).withArrays_arrAt sharedIn0 (V0 m c) (A_eq m c) 9)

/-- The same of the second product. -/
theorem tail_v3 (c : Dev nD) : Pipeline.afterTail₀ cfgs (dats m) 0 (V0 m) [hostOps1] c main_v3
    = Host.slice S2x2x5632 ![3, 0, 0] ![4, 1, 1] ((dats m 0 c).arrAt 10 (cfgs 0).N) Gen.slicesBy_S8x2x5632_S2x2x5632_3s4_0s1_0s1 := by
  have h : ∀ W : Valuation τ sig (Elt Ideal), StableHlo.after [hostOps1].flatten W (Proc.tc.devRef main_v3)
    = Host.slice S2x2x5632 ![3, 0, 0] ![4, 1, 1] (W (Proc.tc.devRef main_v1_2)) Gen.slicesBy_S8x2x5632_S2x2x5632_3s4_0s1_0s1 := fun W => rfl
  unfold Pipeline.afterTail₀
  rw [h]
  exact congrArg (Host.slice S2x2x5632 ![3, 0, 0] ![4, 1, 1] · Gen.slicesBy_S8x2x5632_S2x2x5632_3s4_0s1_0s1)
    ((dats m 0 c).withArrays_arrAt sharedIn0 (V0 m c) (A_eq m c) 10)

/-- The first product's last two rows of each sequence are those the sequence's last tile kept. -/
theorem kept_gate (u : FVec Ideal Cert.UpRefIdeal.S2x4098x11264 .f32) :
    extractStridedSlice Cert.UpRefIdeal.S2x2x5632 ![0, 0, 0]
        (extractStridedSlice Cert.UpRefIdeal.S2x2x11264 ![0, 4096, 0] u Cert.UpRefIdeal.Gen.slices_S2x4098x11264_S2x2x11264_0_4096_0)
        Cert.UpRefIdeal.Gen.slices_S2x2x11264_S2x2x5632_0_0_0
      = Host.slice S2x2x5632 ![3, 0, 0] ![4, 1, 1] (KEPT 0 (by decide) u) Gen.slicesBy_S8x2x5632_S2x2x5632_3s4_0s1_0s1 := by
  funext y
  pointwise [KEPT]
  blk_ext

/-- The second product's last two rows of each sequence are those the sequence's last tile kept. -/
theorem kept_val (u : FVec Ideal Cert.UpRefIdeal.S2x4098x11264 .f32) :
    extractStridedSlice Cert.UpRefIdeal.S2x2x5632 ![0, 0, 5632]
        (extractStridedSlice Cert.UpRefIdeal.S2x2x11264 ![0, 4096, 0] u Cert.UpRefIdeal.Gen.slices_S2x4098x11264_S2x2x11264_0_4096_0)
        Cert.UpRefIdeal.Gen.slices_S2x2x11264_S2x2x5632_0_0_5632
      = Host.slice S2x2x5632 ![3, 0, 0] ![4, 1, 1] (KEPT 5632 (by decide) u) Gen.slicesBy_S8x2x5632_S2x2x5632_3s4_0s1_0s1 := by
  funext y
  pointwise [KEPT]
  blk_ext

end Cert.UpIdeal.Conv
end
-- ==== Proof.Claims.lean ====
module

public import proofs.«01_k».proof.Defs
public import proofs.«01_k».proof.Proof.DownValue
public import proofs.«01_k».proof.Proof.OutValue
public import proofs.«01_k».proof.Proof.UpValue
public import Idealize.ShloMosaic.Adequacy
public import Idealize.ShloMosaic.Init

@[expose] public section

set_option maxRecDepth 16384

noncomputable section

namespace Cert.Proof

open Idealize.ShloMosaic Idealize.SL.Sem

set_option maxHeartbeats 1600000 in
/-- The down projection and its residual, on every extended real: kernel and reference end with the same result. -/
theorem down_same : Cert.algebraic_DownIdeal_DownRefIdeal := by
  pair_intro
  · run_from Cert.DownIdeal.Gen.run_main m g
  · hlo_run
    exact (Cert.DownIdeal.Residual.final m c).symm

set_option maxHeartbeats 1600000 in
/-- The attention's output projection and its residual: kernel and reference end with the same result. -/
theorem out_same : Cert.algebraic_OutIdeal_OutRefIdeal := by
  pair_intro
  · run_from Cert.OutIdeal.Gen.run_main m g
  · hlo_run
    exact (Cert.OutIdeal.Residual.final m c).symm

set_option maxHeartbeats 3200000 in
/-- The up projections, their convolution and their gate: kernel and reference end with the same three results. -/
theorem up_same : Cert.algebraic_UpIdeal_UpRefIdeal := by
  pair_intro
  · run_from Cert.UpIdeal.Gen.run_main m g
    exact Cert.UpIdeal.Conv.tail_arg3 m c
  · run_from Cert.UpRefIdeal.Value.run m' g'
    · rw [Cert.UpIdeal.Conv.final8 m c]
      obtain ⟨h0, h1, h2, h3⟩ := hagree c
      unfold Cert.UpRefIdeal.Value.res_main_v38
      rw [h0, h1, h2, h3]
      rfl
    · rw [Cert.UpIdeal.Conv.tail_v2 m c, Cert.UpIdeal.Conv.final9 m c]
      exact Cert.UpIdeal.Conv.kept_gate _
    · rw [Cert.UpIdeal.Conv.tail_v3 m c, Cert.UpIdeal.Conv.final10 m c]
      exact Cert.UpIdeal.Conv.kept_val _

end Cert.Proof
end
-- ==== Proof.FlashMath.lean ====
module

public import Idealize.ShloMosaic.PureOps.Ideal
public import Idealize.ShloMosaic.PureOps.Ideal.Laws

@[expose] public section

/-!
# The softmax of a row, block by block

The numbers a row of forgetting attention goes through: scores that are real numbers or `⊥` (a masked key), a running
maximum, a running sum of weights and a running sum of weighted values.  The sums are stated against any real number `μ`
that the running maximum may be; the quotient at the end does not depend on it.
-/

noncomputable section

open Idealize.ShloMosaic

namespace Cert.FoxIdeal.Flash

/-- The weight of a score `x` against the number `μ`: a power of two, and zero for a masked key. -/
def wt (x : EReal) (μ : ℝ) : ℝ := (Ideal.exp2 (x - (μ : EReal))).toReal

/-- A masked key weighs nothing. -/
theorem wt_bot (μ : ℝ) : wt ⊥ μ = 0 := by
  unfold wt
  rw [EReal.bot_sub]; rfl

/-- A real score weighs a power of two. -/
theorem wt_coe (a μ : ℝ) : wt (a : EReal) μ = Real.rpow 2 (a - μ) := by
  unfold wt
  rw [← EReal.coe_sub]; rfl

/-- The exponential of a score against a real number is its weight. -/
theorem exp2_sub {x : EReal} (hx : x ≠ ⊤) (μ : ℝ) : Ideal.exp2 (x - (μ : EReal)) = ((wt x μ : ℝ) : EReal) := by
  induction x with
  | bot => rw [wt_bot, EReal.bot_sub]; rfl
  | coe a => rw [wt_coe, ← EReal.coe_sub]; rfl
  | top => exact absurd rfl hx

/-- Weights against another number differ by one factor. -/
theorem wt_shift {x : EReal} (hx : x ≠ ⊤) (μ μ' : ℝ) : wt x μ' = Real.rpow 2 (μ - μ') * wt x μ := by
  induction x with
  | bot => rw [wt_bot, wt_bot, mul_zero]
  | coe a =>
    rw [wt_coe, wt_coe]
    show (2 : ℝ) ^ (a - μ') = (2 : ℝ) ^ (μ - μ') * (2 : ℝ) ^ (a - μ)
    rw [← Real.rpow_add (by norm_num)]
    congr 1; ring
  | top => exact absurd rfl hx

/-- The sum of real numbers, taken among the extended ones. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The quotient of two numbers, the divisor not zero. -/
theorem div_real (x y : ℝ) (hy : y ≠ 0) : Ideal.div (x : EReal) (y : EReal) = ((x / y : ℝ) : EReal) := by
  unfold Ideal.div
  rw [if_neg (fun h => hy (EReal.coe_eq_zero.mp h)), ← EReal.coe_inv, ← EReal.coe_mul, div_eq_mul_inv]

/-- The fold of `max` over a family without `⊤` that has a number in it is a number. -/
theorem fold_max_real {ι : Type} [Fintype ι] (f : ι → EReal) (hf : ∀ i, f i ≠ ⊤) (M : EReal) (hM : M ≠ ⊤) (i : ι) (hi : f i ≠ ⊥) :
    ∃ μ : ℝ, max M (Finset.univ.fold max (⊥ : EReal) f) = (μ : EReal) := by
  have ht : Finset.univ.fold max (⊥ : EReal) f ≠ ⊤ := by
    refine ne_of_lt (Finset.fold_op_rel_iff_and (r := fun x y => y < x) (c := ⊤) (fun {x y z} => ?_) |>.mpr ⟨bot_lt_top, fun x _ => lt_of_le_of_ne le_top (hf x)⟩)
    exact max_lt_iff
  have hb : f i ≤ Finset.univ.fold max (⊥ : EReal) f :=
    (Finset.le_fold_max _).mpr (Or.inr ⟨i, Finset.mem_univ i, le_refl _⟩)
  refine ⟨(max M (Finset.univ.fold max (⊥ : EReal) f)).toReal, (EReal.coe_toReal ?_ ?_).symm⟩
  · rcases max_choice M (Finset.univ.fold max (⊥ : EReal) f) with h | h <;> rw [h] <;> assumption
  · exact fun h => hi (le_bot_iff.mp (hb.trans ((le_max_right _ _).trans h.le)))

/-- The three running numbers after the first `N` keys of scores `x` and values `v`. -/
def Run (x : ℕ → EReal) (v : ℕ → ℝ) (N : ℕ) (M L A : EReal) : Prop :=
  ∃ μ : ℝ, (M = (μ : EReal) ∨ (M = ⊥ ∧ N = 0))
    ∧ L = ((∑ j ∈ Finset.range N, wt (x j) μ : ℝ) : EReal)
    ∧ A = ((∑ j ∈ Finset.range N, wt (x j) μ * v j : ℝ) : EReal)

/-- Before any key. -/
theorem Run.zero (x : ℕ → EReal) (v : ℕ → ℝ) : Run x v 0 ⊥ 0 0 :=
  ⟨0, Or.inr ⟨rfl, rfl⟩, by simp, by simp⟩

/-- The running maximum after a block is a number. -/
theorem Run.max_real {x : ℕ → EReal} {v : ℕ → ℝ} {N : ℕ} {M L A : EReal} (h : Run x v N M L A) (hx : ∀ j, x j ≠ ⊤)
    (B : ℕ) (k : Fin B) (hk : x (N + k.val) ≠ ⊥) :
    ∃ μ : ℝ, max M (Finset.univ.fold max (⊥ : EReal) fun k : Fin B => x (N + k.val)) = (μ : EReal) := by
  obtain ⟨μ, hM, -, -⟩ := h
  refine fold_max_real _ (fun k => hx _) M ?_ k hk
  rcases hM with rfl | ⟨rfl, -⟩
  · exact EReal.coe_ne_top μ
  · exact bot_ne_top

/-- One block of keys, as the kernel takes it. -/
theorem Run.step {x : ℕ → EReal} {v : ℕ → ℝ} {N : ℕ} {M L A : EReal} (h : Run x v N M L A) (hx : ∀ j, x j ≠ ⊤)
    (B : ℕ) (M' : EReal) (μ' : ℝ) (hM' : M' = (μ' : EReal)) :
    Run x v (N + B) M'
      (Ideal.exp2 (M - M') * L + ∑ k : Fin B, Ideal.exp2 (x (N + k.val) - M'))
      (A * Ideal.exp2 (M - M') + ∑ k : Fin B, Ideal.exp2 (x (N + k.val) - M') * (v (N + k.val) : EReal)) := by
  obtain ⟨μ, hM, hL, hA⟩ := h
  subst hM'
  have e1 : ∑ k : Fin B, Ideal.exp2 (x (N + k.val) - (μ' : EReal)) = ((∑ k : Fin B, wt (x (N + k.val)) μ' : ℝ) : EReal) := by
    rw [← coe_sum]; exact Finset.sum_congr rfl fun k _ => exp2_sub (hx _) μ'
  have e2 : ∑ k : Fin B, Ideal.exp2 (x (N + k.val) - (μ' : EReal)) * (v (N + k.val) : EReal)
      = ((∑ k : Fin B, wt (x (N + k.val)) μ' * v (N + k.val) : ℝ) : EReal) := by
    rw [← coe_sum]; exact Finset.sum_congr rfl fun k _ => by rw [exp2_sub (hx _) μ', EReal.coe_mul]
  have s1 (f : ℕ → ℝ) : ∑ j ∈ Finset.range (N + B), f j = ∑ j ∈ Finset.range N, f j + ∑ k : Fin B, f (N + k.val) := by
    rw [Finset.sum_range_add, Finset.sum_range (n := B)]
  refine ⟨μ', Or.inl rfl, ?_, ?_⟩
  · rw [e1, s1, hL]
    rcases hM with rfl | ⟨rfl, rfl⟩
    · have : Ideal.exp2 ((μ : EReal) - (μ' : EReal)) = ((Real.rpow 2 (μ - μ') : ℝ) : EReal) := by rw [← EReal.coe_sub]; rfl
      rw [this, ← EReal.coe_mul, ← EReal.coe_add, Finset.mul_sum]
      simp only [← wt_shift (hx _) μ μ']
    · simp
  · rw [e2, s1, hA]
    rcases hM with rfl | ⟨rfl, rfl⟩
    · have : Ideal.exp2 ((μ : EReal) - (μ' : EReal)) = ((Real.rpow 2 (μ - μ') : ℝ) : EReal) := by rw [← EReal.coe_sub]; rfl
      rw [this, mul_comm, ← EReal.coe_mul, ← EReal.coe_add, Finset.mul_sum]
      simp only [← mul_assoc, ← wt_shift (hx _) μ μ']
    · simp

/-- The row's result: the values of the keys up to `q`, weighted by the powers of two of their scores. -/
def softmaxOf (a v : ℕ → ℝ) (q : ℕ) : ℝ :=
  (∑ j ∈ Finset.range (q + 1), Real.rpow 2 (a j) * v j) / ∑ j ∈ Finset.range (q + 1), Real.rpow 2 (a j)

/-- A sum over the keys whose terms beyond `q` are zero stops at `q`. -/
theorem sum_stop (f g : ℕ → ℝ) (q N : ℕ) (hq : q < N) (hf : ∀ j, j ≤ q → f j = g j) (h0 : ∀ j, q < j → f j = 0) :
    ∑ j ∈ Finset.range N, f j = ∑ j ∈ Finset.range (q + 1), g j := by
  rw [← Finset.sum_subset (s₁ := Finset.range (q + 1)) (s₂ := Finset.range N)
    (fun j hj => Finset.mem_range.mpr (by have := Finset.mem_range.mp hj; omega))
    (fun j _ hj => h0 j (by by_contra h; exact hj (Finset.mem_range.mpr (by omega))))]
  exact Finset.sum_congr rfl fun j hj => hf j (by have := Finset.mem_range.mp hj; omega)

/-- The quotient at the end is the row's result. -/
theorem Run.quotient {x : ℕ → EReal} {v a : ℕ → ℝ} {N q : ℕ} {M L A : EReal} (h : Run x v N M L A) (hq : q < N)
    (hx : ∀ j, j ≤ q → x j = (a j : EReal)) (hb : ∀ j, q < j → x j = ⊥) :
    Ideal.div A L = ((softmaxOf a v q : ℝ) : EReal) := by
  obtain ⟨μ, -, hL, hA⟩ := h
  have hp : (0 : ℝ) < Real.rpow 2 (-μ) := Real.rpow_pos_of_pos (by norm_num) _
  have split (j : ℕ) (hj : j ≤ q) : wt (x j) μ = Real.rpow 2 (-μ) * Real.rpow 2 (a j) := by
    rw [hx j hj, wt_coe]
    show (2 : ℝ) ^ (a j - μ) = (2 : ℝ) ^ (-μ) * (2 : ℝ) ^ (a j)
    rw [← Real.rpow_add (by norm_num)]; congr 1; ring
  have none (j : ℕ) (hj : q < j) : wt (x j) μ = 0 := by rw [hb j hj, wt_bot]
  have eL : ∑ j ∈ Finset.range N, wt (x j) μ = Real.rpow 2 (-μ) * ∑ j ∈ Finset.range (q + 1), Real.rpow 2 (a j) := by
    rw [Finset.mul_sum]; exact sum_stop _ _ q N hq split none
  have eA : ∑ j ∈ Finset.range N, wt (x j) μ * v j
      = Real.rpow 2 (-μ) * ∑ j ∈ Finset.range (q + 1), Real.rpow 2 (a j) * v j := by
    rw [Finset.mul_sum]
    exact sum_stop _ _ q N hq (fun j hj => by rw [split j hj, mul_assoc]) (fun j hj => by rw [none j hj, zero_mul])
  have pos : (0 : ℝ) < ∑ j ∈ Finset.range (q + 1), Real.rpow 2 (a j) :=
    Finset.sum_pos (fun j _ => Real.rpow_pos_of_pos (by norm_num) _) ⟨0, Finset.mem_range.mpr (by omega)⟩
  rw [hA, hL, eA, eL, div_real _ _ (mul_pos hp pos).ne', softmaxOf, mul_div_mul_left _ _ hp.ne']

/-- The exponential of the reference's logit against a number, for logits that are the scores times `log 2` and shifted. -/
theorem exp_logit {y : ℕ → EReal} {a : ℕ → ℝ} {q : ℕ} {t : ℝ} (hy : ∀ j, j ≤ q → y j = ((a j * Real.log 2 + t : ℝ) : EReal))
    (hb : ∀ j, q < j → y j = ⊥) (μ : ℝ) (j : ℕ) :
    Ideal.exp (y j - (μ : EReal)) = ((if j ≤ q then Real.exp (t - μ) * Real.rpow 2 (a j) else 0 : ℝ) : EReal) := by
  by_cases h : j ≤ q
  · rw [hy j h, if_pos h, ← EReal.coe_sub]
    show ((Real.exp _ : ℝ) : EReal) = _
    congr 1
    show _ = Real.exp (t - μ) * (2 : ℝ) ^ a j
    rw [Real.rpow_def_of_pos (by norm_num), ← Real.exp_add]
    congr 1; ring
  · rw [hb j (by omega), if_neg h, EReal.bot_sub]; rfl

/-- The reference's row is the same result. -/
theorem reference_row {y : ℕ → EReal} {a v : ℕ → ℝ} {q N : ℕ} {t : ℝ} (hq : q < N)
    (hy : ∀ j, j ≤ q → y j = ((a j * Real.log 2 + t : ℝ) : EReal)) (hb : ∀ j, q < j → y j = ⊥) (μ : ℝ) :
    ∑ j : Fin N, (v j.val : EReal) * Ideal.div (Ideal.exp (y j.val - (μ : EReal)))
        (∑ k : Fin N, Ideal.exp (y k.val - (μ : EReal))) = ((softmaxOf a v q : ℝ) : EReal) := by
  have he := exp_logit hy hb μ
  have hp : (0 : ℝ) < Real.exp (t - μ) := Real.exp_pos _
  have pos : (0 : ℝ) < ∑ j ∈ Finset.range (q + 1), Real.rpow 2 (a j) :=
    Finset.sum_pos (fun j _ => Real.rpow_pos_of_pos (by norm_num) _) ⟨0, Finset.mem_range.mpr (by omega)⟩
  have hden : ∑ k : Fin N, Ideal.exp (y k.val - (μ : EReal))
      = ((Real.exp (t - μ) * ∑ j ∈ Finset.range (q + 1), Real.rpow 2 (a j) : ℝ) : EReal) := by
    simp only [he]
    rw [coe_sum, ← Finset.sum_range (n := N) (fun j => if j ≤ q then Real.exp (t - μ) * Real.rpow 2 (a j) else 0), Finset.mul_sum]
    exact congrArg _ (sum_stop _ _ q N hq (fun j hj => if_pos hj) (fun j hj => if_neg (by omega)))
  rw [hden]
  simp only [he, div_real _ _ (mul_pos hp pos).ne', ← EReal.coe_mul]
  rw [coe_sum, ← Finset.sum_range (n := N) (fun j => v j * ((if j ≤ q then Real.exp (t - μ) * Real.rpow 2 (a j) else 0)
    / (Real.exp (t - μ) * ∑ j ∈ Finset.range (q + 1), Real.rpow 2 (a j)))),
    sum_stop _ (fun j => Real.rpow 2 (a j) * v j / ∑ j ∈ Finset.range (q + 1), Real.rpow 2 (a j)) q N hq
      (fun j hj => by rw [if_pos hj, mul_div_mul_left _ _ hp.ne']; ring)
      (fun j hj => by rw [if_neg (by omega), zero_div, mul_zero])]
  rw [softmaxOf, Finset.sum_div]

end Cert.FoxIdeal.Flash

end
-- ==== Proof.FoxRefValue.lean ====
module

public import proofs.«01_k».proof.Proof.Gen.FoxRefIdeal.Run
public import proofs.«01_k».proof.Proof.FlashMath
public import Idealize.ShloMosaic.Lib.Pipeline.ValueKit
public import Idealize.ShloMosaic.Lib.KernelVsHost
public import Idealize.ShloMosaic.Lib.WordCmp

@[expose] public section

set_option maxRecDepth 16384

/-!
# The reference of the attention, element by element
-/

noncomputable section

open Idealize.ShloMosaic Idealize.ShloMosaic.TcCoe Idealize.SL.Sem
open Idealize.ShloMosaic.Pipeline (Dat)

namespace Cert.FoxRefIdeal.Attn

open Cert.FoxRefIdeal Cert.FoxRefIdeal.Gen

/-- The logits: query by key, scaled, with the bias of the cumulated gates, and `⊥` beyond the query. -/
abbrev LOGITS (Q : FVec Ideal S2x4096x4x4x128 .f32) (K : FVec Ideal S2x4096x4x128 .f32) (C : FVec Ideal S2x4x4x4096 .f32) :
    FVec Ideal S2x4x4x4096x4096 .f32 :=
  select (broadcastInDim S2x4x4x4096x4096 ![3, 4] bcast_S4096x4096_S2x4x4x4096x4096_3_4 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (addf (Host.divf (transpose S2x4x4x4096x4096 [0, 1, 4, 3, 2] (Host.dotGeneral dot_S2x4096x4x128_S2x4096x4x4x128_S2x4x4096x4096x4_3_4_1_13_02_02 none K Q) transposes_S2x4x4096x4096x4_S2x4x4x4096x4096_0_1_4_3_2)
        (broadcastInDim S2x4x4x4096x4096 ![] bcast_S_S2x4x4x4096x4096 (Host.sqrt (constant S_ .f32 0x43000000#32))))
      (subf (broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 C))
        (broadcastInDim S2x4x4x4096x4096 ![0, 1, 2, 3, 4] bcast_S2x4x4x1x4096_S2x4x4x4096x4096_0_1_2_3_4 (broadcastInDim S2x4x4x1x4096 ![0, 1, 2, 4] bcast_S2x4x4x4096_S2x4x4x1x4096_0_1_2_4 C))))
    (broadcastInDim S2x4x4x4096x4096 ![] bcast_S_S2x4x4x4096x4096 (id (constant S_ .f32 0xFF800000#32)))

/-- The largest logit of each query, along the keys. -/
abbrev MAX (L : FVec Ideal S2x4x4x4096x4096 .f32) : FVec Ideal S2x4x4x4096x4096 .f32 :=
  broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 (maximumf (broadcastInDim S2x4x4x4096 ![] bcast_S_S2x4x4x4096 (constant S_ .f32 0xFF800000#32)) (Host.reduce FloatOps.maximumf L (constant S_ .f32 0xFF800000#32) reducesTo_S2x4x4x4096x4096_S2x4x4x4096_d4 h_S_)))

/-- Exponentials over their sum along the keys. -/
abbrev SHARE (E : FVec Ideal S2x4x4x4096x4096 .f32) : FVec Ideal S2x4x4x4096x4096 .f32 :=
  Host.divf E (broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 (Host.reduceAdd E (constant S_ .f32 0x00000000#32) reducesTo_S2x4x4x4096x4096_S2x4x4x4096_d4 h_S_)))

/-- The values weighted by the shares, heads side by side. -/
abbrev OUT (V : FVec Ideal S2x4096x4x128 .f32) (P : FVec Ideal S2x4x4x4096x4096 .f32) : FVec Ideal S8192x2048 .bf16 :=
  truncf .bf16 (shapeCast _ (transpose S2x4096x4x4x128 [0, 4, 1, 3, 2] (Host.dotGeneral dot_S2x4096x4x128_S2x4x4x4096x4096_S2x4x128x4x4096_1_4_3_23_02_01 none V P) transposes_S2x4x128x4x4096_S2x4096x4x4x128_0_4_1_3_2) shapeCasts_S2x4096x4x4x128_S8192x2048) bitsLt_bf16_f32

/-- The reference's term, of its arguments. -/
abbrev REF (q : FVec Ideal S8192x2048 .f32) (k v : FVec Ideal S8192x512 .f32) (cum : FVec Ideal S2x16x4096 .f32) : FVec Ideal S8192x2048 .bf16 :=
  OUT (shapeCast _ v shapeCasts_S8192x512_S2x4096x4x128)
    (SHARE (Host.exp (subf (LOGITS (shapeCast _ q shapeCasts_S8192x2048_S2x4096x4x4x128) (shapeCast _ k shapeCasts_S8192x512_S2x4096x4x128) (shapeCast _ cum shapeCasts_S2x16x4096_S2x4x4x4096))
      (MAX (LOGITS (shapeCast _ q shapeCasts_S8192x2048_S2x4096x4x4x128) (shapeCast _ k shapeCasts_S8192x512_S2x4096x4x128) (shapeCast _ cum shapeCasts_S2x16x4096_S2x4x4x4096))))))

/-- The run's result is the term. -/
theorem result (m : (ℓ : Loc nD τ sig) → Buf (Elt Ideal) ℓ) (c : Dev nD) :
    Cert.FoxRefIdeal.Value.res_main_v37 m c = REF (m ((c.tc : Thread nD τ).loc main_arg0)) (m ((c.tc : Thread nD τ).loc main_arg1))
      (m ((c.tc : Thread nD τ).loc main_arg2)) (m ((c.tc : Thread nD τ).loc main_arg3)) := by
  (rfl)

/-- A fold of the maximum, by equal starts and equal terms. -/
theorem fold_op {ι : Type} (s : Finset ι) (c d : EReal) (h : c = d) (f f' : ι → EReal) (hf : ∀ x, f x = f' x) :
    s.fold (FloatOps.maximumf (F := Ideal) (φ := .f32)) c f = s.fold max d f' := by
  subst h
  rw [show f = f' from funext hf]
  rfl

/-- The largest logit of a query. -/
theorem redu_at (L : FVec Ideal S2x4x4x4096x4096 .f32) (b : Fin 2) (n g : Fin 4) (t : Fin 4096) :
    Host.reduce FloatOps.maximumf L (constant S_ .f32 0xFF800000#32) reducesTo_S2x4x4x4096x4096_S2x4x4x4096_d4 h_S_ (ix4 b n g t) = Finset.univ.fold max (⊥ : EReal) fun s' : Fin 4096 => L (ix5 b n g t s') := by
  have h0 : (constant S_ .f32 0xFF800000#32 (Shape.Idx.first h_S_) : Ideal .f32) = (⊥ : EReal) := by
    show Ideal.ofBits .f32 0xFF800000#32 = ⊥
    simp [Ideal.ofBits, Ideal.ieee]
  rw [Host.reduce_eq_fold_single FloatOps.maximumf L _ reducesTo_S2x4x4x4096x4096_S2x4x4x4096_d4 (by decide +kernel) h_S_]
  refine fold_op _ _ _ h0 _ _ fun s => congrArg L (funext fun p => Fin.ext ?_)
  fin_cases p <;> rfl

/-- A query's number against `⊥`, in every place along the keys. -/
theorem spread_at (M : FVec Ideal S2x4x4x4096 .f32) (b : Fin 2) (n g : Fin 4) (t s : Fin 4096) :
    broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 (maximumf (broadcastInDim S2x4x4x4096 ![] bcast_S_S2x4x4x4096 (constant S_ .f32 0xFF800000#32)) M)) (ix5 b n g t s)
      = max (⊥ : EReal) (M (ix4 b n g t)) := by
  pointwise
  refine congrArg (max · _) ?_
  simp [Ideal.ofBits, Ideal.ieee]
/-- The largest logit of a query, in every place along the keys. -/
theorem max_at (L : FVec Ideal S2x4x4x4096x4096 .f32) (b : Fin 2) (n g : Fin 4) (t s : Fin 4096) :
    MAX L (ix5 b n g t s) = max (⊥ : EReal) (Finset.univ.fold max (⊥ : EReal) fun s' : Fin 4096 => L (ix5 b n g t s')) :=
  (spread_at _ b n g t s).trans (congrArg (max ⊥) (redu_at L b n g t))

/-- A share: an exponential over the sum of the query's. -/
theorem share_at (E : FVec Ideal S2x4x4x4096x4096 .f32) (b : Fin 2) (n g : Fin 4) (t s : Fin 4096) :
    SHARE E (ix5 b n g t s) = Ideal.div (E (ix5 b n g t s)) (∑ s' : Fin 4096, E (ix5 b n g t s')) := by
  pointwise

/-- An output, as the values weighted by the shares. -/
theorem out_at (V : FVec Ideal S2x4096x4x128 .f32) (P : FVec Ideal S2x4x4x4096x4096 .f32) (b : Fin 2) (t : Fin 4096) (n g : Fin 4) (d : Fin 128) :
    OUT V P (ix2 ⟨4096 * b.val + t.val, by omega⟩ ⟨512 * n.val + 128 * g.val + d.val, by omega⟩)
      = ∑ s : Fin 4096, V (ix4 b s n d) * P (ix5 b n g t s) := by
  pointwise

/-- The root of the head's dimension, as the program computes it. -/
theorem root_real : Ideal.sqrt (Ideal.ofBits .f32 0x43000000#32) = ((Real.sqrt 128 : ℝ) : EReal) := by
  have e : Ideal.ofBits .f32 0x43000000#32 = ((128 : ℝ) : EReal) := by
    simp [Ideal.ofBits, Ideal.ieee]
    rw [← EReal.coe_mul]
    norm_num
  rw [e]
  show (if (128 : ℝ) < 0 then (⊥ : EReal) else ((Real.sqrt 128 : ℝ) : EReal)) = _
  rw [if_neg (by norm_num)]

/-- A logit. -/
theorem logits_at (Q : FVec Ideal S2x4096x4x4x128 .f32) (K : FVec Ideal S2x4096x4x128 .f32) (C : FVec Ideal S2x4x4x4096 .f32)
    (b : Fin 2) (n g : Fin 4) (t s : Fin 4096) :
    LOGITS Q K C (ix5 b n g t s) = if s.val ≤ t.val then
      (Ideal.div (∑ e : Fin 128, K (ix4 b s n e) * Q (ix5 b t n g e)) ((Real.sqrt 128 : ℝ) : EReal)
        + (C (ix4 b n g t) - C (ix4 b n g s))) else ⊥ := by
  have hb : (id (constant (F := Ideal) S_ .f32 0xFF800000#32) ix0 : EReal) = ⊥ := by
    show Ideal.ofBits .f32 0xFF800000#32 = ⊥
    simp [Ideal.ofBits, Ideal.ieee]
  pointwise
  rw [root_real, hb, WordCmp.cmpi_sle_ofNat (by omega) (by omega)]
  by_cases h : s.val ≤ t.val
  · rw [if_pos h, decide_eq_true h]; rfl
  · rw [if_neg h, decide_eq_false h]; rfl

end Cert.FoxRefIdeal.Attn

end
-- ==== Proof.FlashSlots.lean ====
module

public import proofs.«01_k».proof.Proof.Gen.FoxIdeal.Value
public import Idealize.ShloMosaic.Lib.Pipeline.ValueKit
public import Idealize.ShloMosaic.Lib.Pipeline.ReadBack

@[expose] public section

set_option maxRecDepth 16384

/-!
# The sixteen slots of the running maximum, sum and accumulator

The kernel keeps, for a block of 512 queries, a running maximum, a running sum and an accumulator in three arrays
of shape 4 × 2048 × 128.  Slot `j` (of sixteen) is the 512 rows of head `j`: plane `j / 4`, rows from `512 (j mod 4)`.
A slot is read and written whole, and two different slots share no element.
-/

noncomputable section

open Idealize.ShloMosaic Idealize.ShloMosaic.TcCoe Idealize.SL.Sem
open Idealize.ShloMosaic.Pipeline (Dat)

namespace Cert.FoxIdeal.Flash

open Cert.FoxIdeal Cert.FoxIdeal.Gen

/-- The plane of slot `j` lies in the array. -/
theorem planeIn (j : ℕ) : ∀ a, (![j / 4 % 4, 0, 0] : Fin 3 → ℕ) a + S1x2048x128.size a ≤ S4x2048x128.size a := by
  intro a; fin_cases a
  · show j / 4 % 4 + 1 ≤ 4; omega
  · exact le_refl 2048
  · exact le_refl 128

/-- The rows of slot `j` lie in its plane. -/
theorem rowsIn (j : ℕ) : ∀ a, (![512 * (j % 4), 0] : Fin 2 → ℕ) a + S512x128.size a ≤ S2048x128.size a := by
  intro a; fin_cases a
  · show 512 * (j % 4) + 512 ≤ 2048; omega
  · exact le_refl 128

/-- A plane is its rows with an axis of one element in front. -/
theorem planeSize : ∀ i : Fin 2, (![1, 2048, 128] : Fin 3 → ℕ) i.succ = (![2048, 128] : Fin 2 → ℕ) i := by
  intro i; fin_cases i <;> rfl

/-- The rows of slot `j` in its plane. -/
abbrev rowRect (j : ℕ) : Rect S2048x128 := Rect.unit (s := S2048x128) ![512 * (j % 4), 0] S512x128.size (rowsIn j)

/-- The rectangle that a write to slot `j` fills. -/
abbrev slotRect (j : ℕ) : Rect S4x2048x128 :=
  (Rect.unit (s := S4x2048x128) ![j / 4 % 4, 0, 0] S1x2048x128.size (planeIn j)).within
    ((rowRect j).consLift ![1, 2048, 128] rfl planeSize) (fun _ => rfl)

/-- The rectangle that a read of slot `j` takes. -/
abbrev slotLoad (j : ℕ) : LoadRect S4x2048x128 :=
  (Rect.unit (s := S4x2048x128) ![j / 4 % 4, 0, 0] S1x2048x128.size (planeIn j)).withinL
    ((rowRect j).toLoadRect.consLift ![1, 2048, 128] rfl planeSize) (fun _ => rfl)

/-- The write of `w` to slot `j`. -/
abbrev piece (j : ℕ) (w : FVec Ideal S512x128 .f32) : View.Piece (Elt Ideal) S4x2048x128 .f32 :=
  ⟨slotRect j, Rect.payAlong ((rowRect j).numel_consLift ![1, 2048, 128] rfl planeSize) w⟩

/-- What slot `j` of the contents `f` holds. -/
abbrev slotOf (v : View sig .tc .vmem S4x2048x128 .f32) (f : v.ty.Contents (Elt Ideal)) (j : ℕ) :
    FVec Ideal S512x128 .f32 :=
  LoadRect.valAlong ((rowRect j).toLoadRect.numel_consLift ![1, 2048, 128] rfl planeSize)
    (View.readAt (Elt Ideal) v (slotLoad j) f)

/-- The place in the array of an element of slot `j`. -/
def place (j : ℕ) (y : S512x128.Idx) : S4x2048x128.Idx :=
  (slotLoad j).idx (Fin.cons ⟨0, Nat.one_pos⟩ y)

/-- A slot's element is the array's at its place. -/
theorem slotOf_apply (v : View sig .tc .vmem S4x2048x128 .f32) (f : v.ty.Contents (Elt Ideal)) (j : ℕ) (y : S512x128.Idx) :
    slotOf v f j y = v.read (Elt Ideal) f (place j y) := by
  show v.read (Elt Ideal) f ((slotLoad j).idx (Shape.reshapeEquiv _ y)) = _
  unfold place
  congr 2
  exact Shape.reshapeEquiv_cons_one _ y

/-- The plane of a place. -/
theorem place_zero (j : ℕ) (y : S512x128.Idx) : (place j y (0 : Fin 3)).val = j / 4 % 4 := by
  show j / 4 % 4 + 0 + 1 * 0 = _; omega

/-- The row of a place. -/
theorem place_one (j : ℕ) (y : S512x128.Idx) : (place j y (1 : Fin 3)).val = 512 * (j % 4) + (y 0).val := by
  show 0 + 512 * (j % 4) + 1 * (y 0).val = _; omega

/-- The lane of a place. -/
theorem place_two (j : ℕ) (y : S512x128.Idx) : (place j y (2 : Fin 3)).val = (y 1).val := by
  show 0 + 0 + 1 * (y 1).val = _; omega

/-- The slot just written holds what was written. -/
theorem slotOf_hit (v : View sig .tc .vmem S4x2048x128 .f32) (f : v.ty.Contents (Elt Ideal)) (j : ℕ)
    (w : FVec Ideal S512x128 .f32) (L : List (View.Piece (Elt Ideal) S4x2048x128 .f32)) :
    slotOf v (v.writes (Elt Ideal) f (piece j w :: L)) j = w := by
  funext y
  rw [slotOf_apply]
  refine (View.read_writes_cons_hit_of_coords v f (slotRect j) _ L (Fin.cons ⟨0, Nat.one_pos⟩ y) (place j y) ?_).trans ?_
  · intro a; rfl
  · exact Rect.payAlong_consLift (rowRect j) _ _ _ w _ _ y (fun i => rfl)

/-- A write to another slot leaves a slot as it was. -/
theorem slotOf_miss (v : View sig .tc .vmem S4x2048x128 .f32) (f : v.ty.Contents (Elt Ideal)) (i j : ℕ)
    (w : FVec Ideal S512x128 .f32) (L : List (View.Piece (Elt Ideal) S4x2048x128 .f32)) (h : i % 16 ≠ j % 16) :
    slotOf v (v.writes (Elt Ideal) f (piece i w :: L)) j = slotOf v (v.writes (Elt Ideal) f L) j := by
  funext y
  rw [slotOf_apply, slotOf_apply]
  by_cases hp : i / 4 % 4 = j / 4 % 4
  · refine View.read_writes_cons_miss_of_axis v f (piece i w) L (place j y) (1 : Fin 3) (0 + 512 * (i % 4)) 512 rfl rfl rfl ?_
    rw [place_one]
    have := (y 0).isLt
    change (y 0).val < 512 at this
    omega
  · refine View.read_writes_cons_miss_of_axis v f (piece i w) L (place j y) (0 : Fin 3) (i / 4 % 4 + 0) 1 rfl rfl rfl ?_
    rw [place_zero]
    omega

/-- The writes of one pass over the slots `0, …, n - 1`, last first, over the writes `L`: slot `j` gets `w j`. -/
def pass (w : ℕ → FVec Ideal S512x128 .f32) (L : List (View.Piece (Elt Ideal) S4x2048x128 .f32)) :
    ℕ → List (View.Piece (Elt Ideal) S4x2048x128 .f32)
  | 0 => L
  | n + 1 => piece n (w n) :: pass w L n

/-- A pass over writes is the pass alone, then the writes. -/
theorem pass_append (w : ℕ → FVec Ideal S512x128 .f32) (L : List (View.Piece (Elt Ideal) S4x2048x128 .f32)) (n : ℕ) :
    pass w [] n ++ L = pass w L n := by
  induction n with
  | zero => rfl
  | succ n ih => show piece n (w n) :: (pass w [] n ++ L) = _; rw [ih]; rfl

/-- A slot not yet reached by the pass is as it was. -/
theorem slotOf_pass_ge (v : View sig .tc .vmem S4x2048x128 .f32) (f : v.ty.Contents (Elt Ideal))
    (w : ℕ → FVec Ideal S512x128 .f32) (L : List (View.Piece (Elt Ideal) S4x2048x128 .f32)) (j n : ℕ) (hj : j < 16) (h : n ≤ j) :
    slotOf v (v.writes (Elt Ideal) f (pass w L n)) j = slotOf v (v.writes (Elt Ideal) f L) j := by
  induction n with
  | zero => rfl
  | succ n ih =>
    exact (slotOf_miss v f n j (w n) _ (by omega)).trans (ih (by omega))

/-- A slot the pass has reached holds what the pass gave it. -/
theorem slotOf_pass_lt (v : View sig .tc .vmem S4x2048x128 .f32) (f : v.ty.Contents (Elt Ideal))
    (w : ℕ → FVec Ideal S512x128 .f32) (L : List (View.Piece (Elt Ideal) S4x2048x128 .f32)) (j n : ℕ) (hn : n ≤ 16) (h : j < n) :
    slotOf v (v.writes (Elt Ideal) f (pass w L n)) j = w j := by
  induction n with
  | zero => omega
  | succ n ih =>
    by_cases e : j = n
    · subst e; exact slotOf_hit v f j (w j) _
    · exact (slotOf_miss v f n j (w n) _ (by omega)).trans (ih (by omega) (by omega))

end Cert.FoxIdeal.Flash
-- ==== Proof.FlashTrip.lean ====
module

public import proofs.«01_k».proof.Proof.FlashSlots
public import Idealize.ShloMosaic.Lib.Pipeline.ValueKit
public import Idealize.ShloMosaic.Lib.Pipeline.ReadBack

@[expose] public section

set_option maxRecDepth 16384

/-!
# One step of the online softmax, as the kernel computes it

A step takes a block of 512 keys.  From the scores of a slot and what the slot's three arrays hold, it makes the new
running maximum, sum and accumulator.  The main loop's trip and the masked last step both make these.
-/

noncomputable section

open Idealize.ShloMosaic Idealize.ShloMosaic.TcCoe Idealize.SL.Sem
open Idealize.ShloMosaic.Pipeline (Dat)

namespace Cert.FoxIdeal.Flash

open Cert.FoxIdeal Cert.FoxIdeal.Gen

/-- The new running maximum of a slot: the old one against the largest score of each row. -/
abbrev newMax (s : FVec Ideal S512x512 .f32) (m : FVec Ideal S512x128 .f32) : FVec Ideal S512x128 .f32 :=
  maximumf m (broadcastTo S512x128 (shapeCast S512x1
    (multiReduction .maximumf [1] S512 s 0xFF800000#32 reduces_S512x512_S512 (.inl rfl) rfl)
    shapeCasts_S512_S512x1) broadcasts_S512x1_S512x128)

/-- The factor by which the old sum and accumulator of a slot are rescaled. -/
abbrev rescale (s : FVec Ideal S512x512 .f32) (m : FVec Ideal S512x128 .f32) : FVec Ideal S512x128 .f32 :=
  exp2 (subf m (newMax s m))

/-- The weights of a slot's scores, against the new maximum. -/
abbrev weights (s : FVec Ideal S512x512 .f32) (m : FVec Ideal S512x128 .f32) : FVec Ideal S512x512 .f32 :=
  exp2 (subf s (concatenate S512x512 1 [⟨S512x128, newMax s m⟩, ⟨S512x128, newMax s m⟩, ⟨S512x128, newMax s m⟩,
    ⟨S512x128, newMax s m⟩] concatenates_S512x128_S512x128_S512x128_S512x128_S512x512_d1))

/-- The new running sum of a slot. -/
abbrev newSum (s : FVec Ideal S512x512 .f32) (m l : FVec Ideal S512x128 .f32) : FVec Ideal S512x128 .f32 :=
  addf (mulf (rescale s m) l) (broadcastTo S512x128 (shapeCast S512x1
    (multiReduction .add [1] S512 (weights s m) 0#32 reduces_S512x512_S512 (.inl rfl) rfl)
    shapeCasts_S512_S512x1) broadcasts_S512x1_S512x128)

/-- The weighted values of the four heads of plane `n`, one head under another. -/
abbrev weighted (s : ℕ → FVec Ideal S512x512 .f32) (m : ℕ → FVec Ideal S512x128 .f32) (vt : ℕ → FVec Ideal S512x128 .bf16)
    (n : ℕ) : FVec Ideal S2048x128 .f32 :=
  matmul dot_S2048x512_S512x128_S2048x128_1_0_0_1_n_n none
    (concatenate S2048x512 0
      [⟨S512x512, truncf .bf16 (weights (s (4 * n)) (m (4 * n))) bitsLt_bf16_f32⟩,
        ⟨S512x512, truncf .bf16 (weights (s (4 * n + 1)) (m (4 * n + 1))) bitsLt_bf16_f32⟩,
        ⟨S512x512, truncf .bf16 (weights (s (4 * n + 2)) (m (4 * n + 2))) bitsLt_bf16_f32⟩,
        ⟨S512x512, truncf .bf16 (weights (s (4 * n + 3)) (m (4 * n + 3))) bitsLt_bf16_f32⟩]
      concatenates_S512x512_S512x512_S512x512_S512x512_S2048x512_d0)
    (vt n) (constant S2048x128 .f32 0x00000000#32)

/-- The rows of a slot lie among the rows of the four heads. -/
theorem rowsSlice (j : ℕ) : S2048x128.Slices ![512 * (j % 4), 0] S512x128 :=
  ⟨rfl, fun a => rowsIn j a⟩

/-- The new accumulator of slot `j`. -/
abbrev newAcc (s : ℕ → FVec Ideal S512x512 .f32) (m a : ℕ → FVec Ideal S512x128 .f32) (vt : ℕ → FVec Ideal S512x128 .bf16)
    (j : ℕ) : FVec Ideal S512x128 .f32 :=
  addf (mulf (a j) (rescale (s j) (m j)))
    (extractStridedSlice S512x128 ![512 * (j % 4), 0] (weighted s m vt (j / 4 % 4)) (rowsSlice j))

/-- A store's cast of a slot to its own shape. -/
abbrev stored (w : FVec Ideal S512x128 .f32) : FVec Ideal S512x128 .f32 :=
  shapeCast S512x128 w shapeCasts_S512x128_S512x128

/-- The queries of plane `n`: its four heads one under another. -/
abbrev queries (v : View sig .tc .vmem S4x2048x128 .bf16) (X : v.ty.Contents (Elt Ideal)) (n : ℕ) :
    FVec Ideal S2048x128 .bf16 :=
  shapeCast S2048x128 (View.readAt (Elt Ideal) v
    (Rect.unit (s := S4x2048x128) ![n % 4, 0, 0] S1x2048x128.size (by
      intro a; fin_cases a
      · show n % 4 + 1 ≤ 4; omega
      · exact le_refl 2048
      · exact le_refl 128)).toLoadRect X) shapeCasts_S1x2048x128_S2048x128

/-- The scores of slot `j` and the slice of it among the four heads' rows. -/
theorem scoresSlice (j : ℕ) : S2048x512.Slices ![512 * (j % 4), 0] S512x512 :=
  ⟨rfl, by
    intro a; fin_cases a
    · show 512 * (j % 4) + 512 ≤ 2048; omega
    · exact le_refl 512⟩

/-- The bias row of head `j` lies among the sixteen. -/
theorem biasSlice (j : ℕ) : S16x512.Slices ![j % 16, 0] S1x512 :=
  ⟨rfl, by
    intro a; fin_cases a
    · show j % 16 + 1 ≤ 16; omega
    · exact le_refl 512⟩

/-- The scores of slot `j` against a block of keys: query by key, and the head's bias row. -/
abbrev scores (q : ℕ → FVec Ideal S2048x128 .bf16) (kt : ℕ → FVec Ideal S512x128 .bf16) (b : FVec Ideal S16x512 .f32)
    (j : ℕ) : FVec Ideal S512x512 .f32 :=
  addf (extractStridedSlice S512x512 ![512 * (j % 4), 0]
      (matmul dot_S2048x128_S512x128_S2048x512_1_1_0_0_n_n none (q (j / 4 % 4)) (kt (j / 4 % 4))
        (constant S2048x512 .f32 0x00000000#32)) (scoresSlice j))
    (broadcastTo S512x512 (extractStridedSlice S1x512 ![j % 16, 0] b (biasSlice j)) broadcasts_S1x512_S512x512)

/-- The block of keys (or values) of the key head `n` that trip `k` reads. -/
abbrev tripTile (v : View sig .tc .vmem S4096x512 .bf16) (X : v.ty.Contents (Elt Ideal)) (i : grid0.Coords)
    (k : Fin (k0_t1_loop i).trips) : ℕ → FVec Ideal S512x128 .bf16
  | 0 => shapeCast S512x128 (View.readAt (Elt Ideal) v
      (Rect.unit (s := S4096x512) (k0_off3 i k) S512x128.size (k0_off3_inb i k)).toLoadRect X) shapeCasts_S512x128_S512x128
  | 1 => shapeCast S512x128 (View.readAt (Elt Ideal) v
      (Rect.unit (s := S4096x512) (k0_off4 i k) S512x128.size (k0_off4_inb i k)).toLoadRect X) shapeCasts_S512x128_S512x128
  | 2 => shapeCast S512x128 (View.readAt (Elt Ideal) v
      (Rect.unit (s := S4096x512) (k0_off5 i k) S512x128.size (k0_off5_inb i k)).toLoadRect X) shapeCasts_S512x128_S512x128
  | _ => shapeCast S512x128 (View.readAt (Elt Ideal) v
      (Rect.unit (s := S4096x512) (k0_off6 i k) S512x128.size (k0_off6_inb i k)).toLoadRect X) shapeCasts_S512x128_S512x128

/-- The bias rows that trip `k` uses. -/
abbrev tripBias (v : View sig .tc .vmem S1x16x4096 .f32) (X : v.ty.Contents (Elt Ideal)) (i : grid0.Coords)
    (v25 : FVec Ideal S16x1 .f32) (k : Fin (k0_t1_loop i).trips) : FVec Ideal S16x512 .f32 :=
  k0_pay2 v25 (View.readAt (Elt Ideal) v
    (Rect.unit (s := S1x16x4096) (k0_off2 i k) S1x16x512.size (k0_off2_inb i k)).toLoadRect X)

section Trip

variable (𝒱 : Variants) (c : Dev nD) (bd : Option 𝒱.V) (i : grid0.Coords)
    (arg2 : Memref sig .tc .vmem S512x2048 .bf16) (harg2 : arg2.IsWhole) (arg3 : Memref sig .tc .vmem S4096x512 .bf16) (harg3 : arg3.IsWhole)
    (arg4 : Memref sig .tc .vmem S4096x512 .bf16) (harg4 : arg4.IsWhole) (arg5 : Memref sig .tc .vmem S1x16x4096 .f32) (harg5 : arg5.IsWhole)
    (arg6 : Memref sig .tc .vmem S512x2048 .bf16) (harg6 : arg6.IsWhole) (arg7 : Memref sig .tc .vmem S4x2048x128 .bf16) (harg7 : arg7.IsWhole)
    (arg8 : Memref sig .tc .vmem S4x2048x128 .f32) (harg8 : arg8.IsWhole) (arg9 : Memref sig .tc .vmem S4x2048x128 .f32) (harg9 : arg9.IsWhole)
    (arg10 : Memref sig .tc .vmem S4x2048x128 .f32) (harg10 : arg10.IsWhole) (v1 : BitVec 32) (v21 : BitVec 32) (v25 : FVec Ideal S16x1 .f32)
    (v26 : IVec S512x512 32) (v27 : IVec S512x512 32) (v65 : FVec Ideal S512x128 .bf16) (X_arg3 : BufTy.Contents (Elt Ideal) arg3.view.ty)
    (X_arg4 : BufTy.Contents (Elt Ideal) arg4.view.ty) (X_arg5 : BufTy.Contents (Elt Ideal) arg5.view.ty)
    (X_arg7 : BufTy.Contents (Elt Ideal) arg7.view.ty)

set_option maxHeartbeats 4000000

/-- What one trip of the main loop writes into the three arrays: one pass over the sixteen slots in each. -/
theorem trip_pieces (k : Fin (k0_t1_loop i).trips) (acc : BitVec 32) (f_arg8 : BufTy.Contents (Elt Ideal) arg8.view.ty)
    (f_arg9 : BufTy.Contents (Elt Ideal) arg9.view.ty) (f_arg10 : BufTy.Contents (Elt Ideal) arg10.view.ty) :
    tripL_k0_t1 (F := Ideal) 𝒱 c bd i arg2 harg2 arg3 harg3 arg4 harg4 arg5 harg5 arg6 harg6 arg7 harg7 arg8 harg8 arg9 harg9 arg10 harg10 v1 v21 v25 v26 v27 v65 X_arg3 X_arg4 X_arg5 X_arg7 k acc f_arg8 f_arg9 f_arg10
      = (pass (fun j => stored (newMax (scores (queries arg7.view X_arg7) (tripTile arg3.view X_arg3 i k) (tripBias arg5.view X_arg5 i v25 k) j)
            (slotOf arg8.view f_arg8 j))) [] 16,
         pass (fun j => stored (newSum (scores (queries arg7.view X_arg7) (tripTile arg3.view X_arg3 i k) (tripBias arg5.view X_arg5 i v25 k) j)
            (slotOf arg8.view f_arg8 j) (slotOf arg9.view f_arg9 j))) [] 16,
         pass (fun j => stored (newAcc (scores (queries arg7.view X_arg7) (tripTile arg3.view X_arg3 i k) (tripBias arg5.view X_arg5 i v25 k))
            (slotOf arg8.view f_arg8) (slotOf arg10.view f_arg10) (tripTile arg4.view X_arg4 i k) j)) [] 16) := by
  unfold tripL_k0_t1 trip_k0_t1
  dsimp only
  refine Prod.ext ?_ (Prod.ext ?_ ?_)
  · rfl
  · rfl
  · rfl

end Trip

end Cert.FoxIdeal.Flash
-- ==== Proof.FlashRun.lean ====
module

public import proofs.«01_k».proof.Proof.FlashTrip
public import Idealize.ShloMosaic.Lib.Pipeline.ValueKit
public import Idealize.ShloMosaic.Lib.Pipeline.ReadBack

@[expose] public section

set_option maxRecDepth 16384

/-!
# One grid point of the kernel: what it writes

After the main loop, the masked last step makes one more pass over the sixteen slots, each slot read back from the
writes before it; the outputs are the accumulators over the sums.
-/

noncomputable section

open Idealize.ShloMosaic Idealize.ShloMosaic.TcCoe Idealize.SL.Sem
open Idealize.ShloMosaic.Pipeline (Dat)

namespace Cert.FoxIdeal.Flash

open Cert.FoxIdeal Cert.FoxIdeal.Gen

/-- What slot `j` holds after the writes `L`. -/
abbrev held (v : View sig .tc .vmem S4x2048x128 .f32) (L : List (View.Piece (Elt Ideal) S4x2048x128 .f32)) (j : ℕ) :
    FVec Ideal S512x128 .f32 :=
  slotOf v (v.writes (Elt Ideal) v.junk L) j

/-! ## The run of one grid point -/

section Run

variable (c : Dev nD) (i : grid0.Coords)
    (arg2 : Memref sig .tc .vmem S512x2048 .bf16) (harg2 : arg2.IsWhole) (arg3 : Memref sig .tc .vmem S4096x512 .bf16) (harg3 : arg3.IsWhole)
    (arg4 : Memref sig .tc .vmem S4096x512 .bf16) (harg4 : arg4.IsWhole) (arg5 : Memref sig .tc .vmem S1x16x4096 .f32) (harg5 : arg5.IsWhole)
    (arg6 : Memref sig .tc .vmem S512x2048 .bf16) (harg6 : arg6.IsWhole) (arg7 : Memref sig .tc .vmem S4x2048x128 .bf16) (harg7 : arg7.IsWhole)
    (arg8 : Memref sig .tc .vmem S4x2048x128 .f32) (harg8 : arg8.IsWhole) (arg9 : Memref sig .tc .vmem S4x2048x128 .f32) (harg9 : arg9.IsWhole)
    (arg10 : Memref sig .tc .vmem S4x2048x128 .f32) (harg10 : arg10.IsWhole)
    (x0 : Vec Ideal S512x2048 .bf16) (x1 : Vec Ideal S4096x512 .bf16) (x2 : Vec Ideal S4096x512 .bf16) (x3 : Vec Ideal S1x16x4096 .f32)

/-- The columns of head `j` in the query block. -/
theorem headIn (j : ℕ) : ∀ a, (![0, 128 * (j % 16)] : Fin 2 → ℕ) a + S512x128.size a ≤ S512x2048.size a := by
  intro a; fin_cases a
  · exact le_refl 512
  · show 128 * (j % 16) + 128 ≤ 2048; omega

/-- The queries of head `j`. -/
abbrev headCols (j : ℕ) : FVec Ideal S512x128 .bf16 :=
  shapeCast S512x128 (View.readAt (Elt Ideal) arg2.view
    (Rect.unit (s := S512x2048) ![0, 128 * (j % 16)] S512x128.size (headIn j)).toLoadRect (harg2.unread x0)) shapeCasts_S512x128_S512x128

/-- The write of plane `n` of the regrouped queries. -/
abbrev queryPlane (n : ℕ) : FVec Ideal S1x2048x128 .bf16 :=
  shapeCast S1x2048x128 (concatenate S2048x128 0
    [⟨S512x128, headCols arg2 harg2 x0 (4 * n)⟩, ⟨S512x128, headCols arg2 harg2 x0 (4 * n + 1)⟩,
      ⟨S512x128, headCols arg2 harg2 x0 (4 * n + 2)⟩, ⟨S512x128, headCols arg2 harg2 x0 (4 * n + 3)⟩]
    concatenates_S512x128_S512x128_S512x128_S512x128_S2048x128_d0) shapeCasts_S2048x128_S1x2048x128

/-- The writes that regroup the queries by plane. -/
def queryPieces : ℕ → List (View.Piece (Elt Ideal) S4x2048x128 .bf16)
  | 0 => []
  | n + 1 => ⟨Rect.unit (s := S4x2048x128) ![n % 4, 0, 0] S1x2048x128.size (by
      intro a; fin_cases a
      · show n % 4 + 1 ≤ 4; omega
      · exact le_refl 2048
      · exact le_refl 128), queryPlane arg2 harg2 x0 n⟩ :: queryPieces n

/-- The regrouped queries. -/
abbrev regrouped : arg7.view.ty.Contents (Elt Ideal) :=
  arg7.view.writes (Elt Ideal) arg7.view.junk (queryPieces arg2 harg2 x0 4)

/-- The cumulated log forget gates at the block's first query, one per head. -/
abbrev firstCum : FVec Ideal S16x1 .f32 :=
  extractStridedSlice S16x1 ![0, 0] (shapeCast S16x128 (View.readAt (Elt Ideal) arg5.view
    (Rect.unit (s := S1x16x4096) (k0_off1 i) S1x16x128.size (k0_off1_inb i)).toLoadRect (harg5.unread x3))
    shapeCasts_S1x16x128_S16x128) slices_S16x128_o0_0_S16x1

/-- The first writes of the maxima. -/
abbrev startMax : List (View.Piece (Elt Ideal) S4x2048x128 .f32) :=
  [⟨Rect.unit (s := S4x2048x128) ![0, 0, 0] S4x2048x128.size inb_S4x2048x128_S4x2048x128_0_0_0, k0_pay299 (F := Ideal)⟩]
/-- The first writes of the sums. -/
abbrev startSum : List (View.Piece (Elt Ideal) S4x2048x128 .f32) :=
  [⟨Rect.unit (s := S4x2048x128) ![0, 0, 0] S4x2048x128.size inb_S4x2048x128_S4x2048x128_0_0_0, k0_pay300 (F := Ideal)⟩]
/-- The first writes of the accumulators. -/
abbrev startAcc : List (View.Piece (Elt Ideal) S4x2048x128 .f32) :=
  [⟨Rect.unit (s := S4x2048x128) ![0, 0, 0] S4x2048x128.size inb_S4x2048x128_S4x2048x128_0_0_0, k0_pay301 (F := Ideal)⟩]

/-- The state before trip `k` of the main loop. -/
abbrev mainState (k : ℕ) :=
  st_k0_t1 (F := Ideal) Variants.none c none i arg2 harg2 arg3 harg3 arg4 harg4 arg5 harg5 arg6 harg6 arg7 harg7 arg8 harg8 arg9 harg9 arg10 harg10 (kernelRun0_A.sl.v0 i) (kernelRun0_A.sl.v21 i)
    (firstCum i arg5 harg5 x3) kernelRun0_A.sl.v26 kernelRun0_A.sl.v27 (headCols arg2 harg2 x0 12)
    (harg3.unread x1) (harg4.unread x2) (harg5.unread x3) (regrouped arg2 harg2 arg7 x0)
    (arg8.view.writes (Elt Ideal) arg8.view.junk startMax) (arg9.view.writes (Elt Ideal) arg9.view.junk startSum)
    (arg10.view.writes (Elt Ideal) arg10.view.junk startAcc) 0#32 k

/-- The number of trips of the main loop. -/
abbrev mainTrips : ℕ := Scf.trips (k0_t1_loop i).lb (k0_t1_loop i).ub (k0_t1_loop i).st

/-- The state after the leftover loop, which follows the main one. -/
abbrev leftState :=
  st_k0_t2 (F := Ideal) Variants.none c none i arg2 harg2 arg3 harg3 arg4 harg4 arg5 harg5 arg6 harg6 arg7 harg7 arg8 harg8 arg9 harg9 arg10 harg10 (kernelRun0_A.sl.v0 i) (kernelRun0_A.sl.v21 i)
    (firstCum i arg5 harg5 x3) kernelRun0_A.sl.v26 kernelRun0_A.sl.v27 (headCols arg2 harg2 x0 12)
    (kernelRun0_A.sl.v93 i) (harg3.unread x1) (harg4.unread x2) (harg5.unread x3) (regrouped arg2 harg2 arg7 x0)
    (arg8.view.writes (Elt Ideal) arg8.view.junk ((mainState c i arg2 harg2 arg3 harg3 arg4 harg4 arg5 harg5 arg6 harg6 arg7 harg7 arg8 harg8 arg9 harg9 arg10 harg10 x0 x1 x2 x3 (mainTrips i)).2.1 ++ startMax))
    (arg9.view.writes (Elt Ideal) arg9.view.junk ((mainState c i arg2 harg2 arg3 harg3 arg4 harg4 arg5 harg5 arg6 harg6 arg7 harg7 arg8 harg8 arg9 harg9 arg10 harg10 x0 x1 x2 x3 (mainTrips i)).2.2.1 ++ startSum))
    (arg10.view.writes (Elt Ideal) arg10.view.junk ((mainState c i arg2 harg2 arg3 harg3 arg4 harg4 arg5 harg5 arg6 harg6 arg7 harg7 arg8 harg8 arg9 harg9 arg10 harg10 x0 x1 x2 x3 (mainTrips i)).2.2.2 ++ startAcc))
    (mainState c i arg2 harg2 arg3 harg3 arg4 harg4 arg5 harg5 arg6 harg6 arg7 harg7 arg8 harg8 arg9 harg9 arg10 harg10 x0 x1 x2 x3 (mainTrips i)).1 (Scf.trips (k0_t2_loop i).lb (k0_t2_loop i).ub (k0_t2_loop i).st)

/-- The writes of the maxima before the masked last step. -/
abbrev beforeMax : List (View.Piece (Elt Ideal) S4x2048x128 .f32) :=
  (leftState c i arg2 harg2 arg3 harg3 arg4 harg4 arg5 harg5 arg6 harg6 arg7 harg7 arg8 harg8 arg9 harg9 arg10 harg10 x0 x1 x2 x3).2.1 ++ ((mainState c i arg2 harg2 arg3 harg3 arg4 harg4 arg5 harg5 arg6 harg6 arg7 harg7 arg8 harg8 arg9 harg9 arg10 harg10 x0 x1 x2 x3 (mainTrips i)).2.1 ++ startMax)
/-- The writes of the sums before the masked last step. -/
abbrev beforeSum : List (View.Piece (Elt Ideal) S4x2048x128 .f32) :=
  (leftState c i arg2 harg2 arg3 harg3 arg4 harg4 arg5 harg5 arg6 harg6 arg7 harg7 arg8 harg8 arg9 harg9 arg10 harg10 x0 x1 x2 x3).2.2.1 ++ ((mainState c i arg2 harg2 arg3 harg3 arg4 harg4 arg5 harg5 arg6 harg6 arg7 harg7 arg8 harg8 arg9 harg9 arg10 harg10 x0 x1 x2 x3 (mainTrips i)).2.2.1 ++ startSum)
/-- The writes of the accumulators before the masked last step. -/
abbrev beforeAcc : List (View.Piece (Elt Ideal) S4x2048x128 .f32) :=
  (leftState c i arg2 harg2 arg3 harg3 arg4 harg4 arg5 harg5 arg6 harg6 arg7 harg7 arg8 harg8 arg9 harg9 arg10 harg10 x0 x1 x2 x3).2.2.2 ++ ((mainState c i arg2 harg2 arg3 harg3 arg4 harg4 arg5 harg5 arg6 harg6 arg7 harg7 arg8 harg8 arg9 harg9 arg10 harg10 x0 x1 x2 x3 (mainTrips i)).2.2.2 ++ startAcc)

/-- The block of keys (or values) of the key head `n` that the masked last step reads. -/
abbrev lastTile (v : View sig .tc .vmem S4096x512 .bf16) (X : v.ty.Contents (Elt Ideal)) (i : grid0.Coords) : ℕ → FVec Ideal S512x128 .bf16
  | 0 => shapeCast S512x128 (View.readAt (Elt Ideal) v
      (Rect.unit (s := S4096x512) (k0_off13 i) S512x128.size (k0_off13_inb i)).toLoadRect X) shapeCasts_S512x128_S512x128
  | 1 => shapeCast S512x128 (View.readAt (Elt Ideal) v
      (Rect.unit (s := S4096x512) (k0_off14 i) S512x128.size (k0_off14_inb i)).toLoadRect X) shapeCasts_S512x128_S512x128
  | 2 => shapeCast S512x128 (View.readAt (Elt Ideal) v
      (Rect.unit (s := S4096x512) (k0_off15 i) S512x128.size (k0_off15_inb i)).toLoadRect X) shapeCasts_S512x128_S512x128
  | _ => shapeCast S512x128 (View.readAt (Elt Ideal) v
      (Rect.unit (s := S4096x512) (k0_off16 i) S512x128.size (k0_off16_inb i)).toLoadRect X) shapeCasts_S512x128_S512x128

/-- The causal mask of the last step. -/
abbrev lastMask (i : grid0.Coords) : IVec S512x512 1 :=
  k0_pay305 (kernelRun0_A.sl.v0 i) (kernelRun0_A.sl.v21 i) kernelRun0_A.sl.v26 kernelRun0_A.sl.v27

/-- The masked scores of slot `j` in the last step. -/
abbrev lastScores (j : ℕ) : FVec Ideal S512x512 .f32 :=
  select (lastMask i)
    (scores (queries arg7.view (regrouped arg2 harg2 arg7 x0)) (lastTile arg3.view (harg3.unread x1) i)
      (k0_pay304 (firstCum i arg5 harg5 x3) (View.readAt (Elt Ideal) arg5.view
        (Rect.unit (s := S1x16x4096) (k0_off12 i) S1x16x512.size (k0_off12_inb i)).toLoadRect (harg5.unread x3))) j)
    (broadcast S512x512 (Named.named κ "mask" 0xF149F2CA#32))

/-- The writes of the outputs: head `j`'s columns get its accumulator over its sum. -/
def outPieces (a l : ℕ → FVec Ideal S512x128 .f32) : ℕ → List (View.Piece (Elt Ideal) S512x2048 .bf16)
  | 0 => []
  | j + 1 => ⟨Rect.unit (s := S512x2048) ![0, 128 * (j % 16)] S512x128.size (headIn j),
      truncf .bf16 (divf (a j) (l j)) bitsLt_bf16_f32⟩ :: outPieces a l j

/-- The writes to the maxima before slot `j` of the last step, as the run left them. -/
def ranMax : ℕ → List (View.Piece (Elt Ideal) S4x2048x128 .f32)
  | 0 => beforeMax c i arg2 harg2 arg3 harg3 arg4 harg4 arg5 harg5 arg6 harg6 arg7 harg7 arg8 harg8 arg9 harg9 arg10 harg10 x0 x1 x2 x3
  | 1 => kernelRun0_A.sl.HS1_1_1 c i arg2 harg2 arg3 harg3 arg4 harg4 arg5 harg5 arg6 harg6 arg7 harg7 arg8 harg8 arg9 harg9 arg10 harg10 x0 x1 x2 x3
  | 2 => kernelRun0_A.sl.HS1_2 c i arg2 harg2 arg3 harg3 arg4 harg4 arg5 harg5 arg6 harg6 arg7 harg7 arg8 harg8 arg9 harg9 arg10 harg10 x0 x1 x2 x3
  | 3 => kernelRun0_A.sl.HS1_3 c i arg2 harg2 arg3 harg3 arg4 harg4 arg5 harg5 arg6 harg6 arg7 harg7 arg8 harg8 arg9 harg9 arg10 harg10 x0 x1 x2 x3
  | 4 => kernelRun0_A.sl.HS1_4 c i arg2 harg2 arg3 harg3 arg4 harg4 arg5 harg5 arg6 harg6 arg7 harg7 arg8 harg8 arg9 harg9 arg10 harg10 x0 x1 x2 x3
  | 5 => kernelRun0_A.sl.HS1_5 c i arg2 harg2 arg3 harg3 arg4 harg4 arg5 harg5 arg6 harg6 arg7 harg7 arg8 harg8 arg9 harg9 arg10 harg10 x0 x1 x2 x3
  | 6 => kernelRun0_A.sl.HS1_6 c i arg2 harg2 arg3 harg3 arg4 harg4 arg5 harg5 arg6 harg6 arg7 harg7 arg8 harg8 arg9 harg9 arg10 harg10 x0 x1 x2 x3
  | 7 => kernelRun0_A.sl.HS1_7 c i arg2 harg2 arg3 harg3 arg4 harg4 arg5 harg5 arg6 harg6 arg7 harg7 arg8 harg8 arg9 harg9 arg10 harg10 x0 x1 x2 x3
  | 8 => kernelRun0_A.sl.HS1_8 c i arg2 harg2 arg3 harg3 arg4 harg4 arg5 harg5 arg6 harg6 arg7 harg7 arg8 harg8 arg9 harg9 arg10 harg10 x0 x1 x2 x3
  | 9 => kernelRun0_A.sl.HS1_9 c i arg2 harg2 arg3 harg3 arg4 harg4 arg5 harg5 arg6 harg6 arg7 harg7 arg8 harg8 arg9 harg9 arg10 harg10 x0 x1 x2 x3
  | 10 => kernelRun0_A.sl.HS1_10 c i arg2 harg2 arg3 harg3 arg4 harg4 arg5 harg5 arg6 harg6 arg7 harg7 arg8 harg8 arg9 harg9 arg10 harg10 x0 x1 x2 x3
  | 11 => kernelRun0_A.sl.HS1_11 c i arg2 harg2 arg3 harg3 arg4 harg4 arg5 harg5 arg6 harg6 arg7 harg7 arg8 harg8 arg9 harg9 arg10 harg10 x0 x1 x2 x3
  | 12 => kernelRun0_A.sl.HS1_12 c i arg2 harg2 arg3 harg3 arg4 harg4 arg5 harg5 arg6 harg6 arg7 harg7 arg8 harg8 arg9 harg9 arg10 harg10 x0 x1 x2 x3
  | 13 => kernelRun0_A.sl.HS1_13 c i arg2 harg2 arg3 harg3 arg4 harg4 arg5 harg5 arg6 harg6 arg7 harg7 arg8 harg8 arg9 harg9 arg10 harg10 x0 x1 x2 x3
  | 14 => kernelRun0_A.sl.HS1_14 c i arg2 harg2 arg3 harg3 arg4 harg4 arg5 harg5 arg6 harg6 arg7 harg7 arg8 harg8 arg9 harg9 arg10 harg10 x0 x1 x2 x3
  | _ => kernelRun0_A.sl.HS1_15 c i arg2 harg2 arg3 harg3 arg4 harg4 arg5 harg5 arg6 harg6 arg7 harg7 arg8 harg8 arg9 harg9 arg10 harg10 x0 x1 x2 x3

/-- The writes to the sums before slot `j` of the last step, as the run left them. -/
def ranSum : ℕ → List (View.Piece (Elt Ideal) S4x2048x128 .f32)
  | 0 => beforeSum c i arg2 harg2 arg3 harg3 arg4 harg4 arg5 harg5 arg6 harg6 arg7 harg7 arg8 harg8 arg9 harg9 arg10 harg10 x0 x1 x2 x3
  | 1 => kernelRun0_A.sl.HS2_1_1 c i arg2 harg2 arg3 harg3 arg4 harg4 arg5 harg5 arg6 harg6 arg7 harg7 arg8 harg8 arg9 harg9 arg10 harg10 x0 x1 x2 x3
  | 2 => kernelRun0_A.sl.HS2_2 c i arg2 harg2 arg3 harg3 arg4 harg4 arg5 harg5 arg6 harg6 arg7 harg7 arg8 harg8 arg9 harg9 arg10 harg10 x0 x1 x2 x3
  | 3 => kernelRun0_A.sl.HS2_3 c i arg2 harg2 arg3 harg3 arg4 harg4 arg5 harg5 arg6 harg6 arg7 harg7 arg8 harg8 arg9 harg9 arg10 harg10 x0 x1 x2 x3
  | 4 => kernelRun0_A.sl.HS2_4 c i arg2 harg2 arg3 harg3 arg4 harg4 arg5 harg5 arg6 harg6 arg7 harg7 arg8 harg8 arg9 harg9 arg10 harg10 x0 x1 x2 x3
  | 5 => kernelRun0_A.sl.HS2_5 c i arg2 harg2 arg3 harg3 arg4 harg4 arg5 harg5 arg6 harg6 arg7 harg7 arg8 harg8 arg9 harg9 arg10 harg10 x0 x1 x2 x3
  | 6 => kernelRun0_A.sl.HS2_6 c i arg2 harg2 arg3 harg3 arg4 harg4 arg5 harg5 arg6 harg6 arg7 harg7 arg8 harg8 arg9 harg9 arg10 harg10 x0 x1 x2 x3
  | 7 => kernelRun0_A.sl.HS2_7 c i arg2 harg2 arg3 harg3 arg4 harg4 arg5 harg5 arg6 harg6 arg7 harg7 arg8 harg8 arg9 harg9 arg10 harg10 x0 x1 x2 x3
  | 8 => kernelRun0_A.sl.HS2_8 c i arg2 harg2 arg3 harg3 arg4 harg4 arg5 harg5 arg6 harg6 arg7 harg7 arg8 harg8 arg9 harg9 arg10 harg10 x0 x1 x2 x3
  | 9 => kernelRun0_A.sl.HS2_9 c i arg2 harg2 arg3 harg3 arg4 harg4 arg5 harg5 arg6 harg6 arg7 harg7 arg8 harg8 arg9 harg9 arg10 harg10 x0 x1 x2 x3
  | 10 => kernelRun0_A.sl.HS2_10 c i arg2 harg2 arg3 harg3 arg4 harg4 arg5 harg5 arg6 harg6 arg7 harg7 arg8 harg8 arg9 harg9 arg10 harg10 x0 x1 x2 x3
  | 11 => kernelRun0_A.sl.HS2_11 c i arg2 harg2 arg3 harg3 arg4 harg4 arg5 harg5 arg6 harg6 arg7 harg7 arg8 harg8 arg9 harg9 arg10 harg10 x0 x1 x2 x3
  | 12 => kernelRun0_A.sl.HS2_12 c i arg2 harg2 arg3 harg3 arg4 harg4 arg5 harg5 arg6 harg6 arg7 harg7 arg8 harg8 arg9 harg9 arg10 harg10 x0 x1 x2 x3
  | 13 => kernelRun0_A.sl.HS2_13 c i arg2 harg2 arg3 harg3 arg4 harg4 arg5 harg5 arg6 harg6 arg7 harg7 arg8 harg8 arg9 harg9 arg10 harg10 x0 x1 x2 x3
  | 14 => kernelRun0_A.sl.HS2_14 c i arg2 harg2 arg3 harg3 arg4 harg4 arg5 harg5 arg6 harg6 arg7 harg7 arg8 harg8 arg9 harg9 arg10 harg10 x0 x1 x2 x3
  | 15 => kernelRun0_A.sl.HS2_15 c i arg2 harg2 arg3 harg3 arg4 harg4 arg5 harg5 arg6 harg6 arg7 harg7 arg8 harg8 arg9 harg9 arg10 harg10 x0 x1 x2 x3
  | _ => kernelRun0_A.sl.HS2_16 c i arg2 harg2 arg3 harg3 arg4 harg4 arg5 harg5 arg6 harg6 arg7 harg7 arg8 harg8 arg9 harg9 arg10 harg10 x0 x1 x2 x3

/-- The writes to the accumulators before slot `j` of the last step, as the run left them. -/
def ranAcc : ℕ → List (View.Piece (Elt Ideal) S4x2048x128 .f32)
  | 0 => beforeAcc c i arg2 harg2 arg3 harg3 arg4 harg4 arg5 harg5 arg6 harg6 arg7 harg7 arg8 harg8 arg9 harg9 arg10 harg10 x0 x1 x2 x3
  | 1 => kernelRun0_A.sl.HS3_1_1 c i arg2 harg2 arg3 harg3 arg4 harg4 arg5 harg5 arg6 harg6 arg7 harg7 arg8 harg8 arg9 harg9 arg10 harg10 x0 x1 x2 x3
  | 2 => kernelRun0_A.sl.HS3_2 c i arg2 harg2 arg3 harg3 arg4 harg4 arg5 harg5 arg6 harg6 arg7 harg7 arg8 harg8 arg9 harg9 arg10 harg10 x0 x1 x2 x3
  | 3 => kernelRun0_A.sl.HS3_3 c i arg2 harg2 arg3 harg3 arg4 harg4 arg5 harg5 arg6 harg6 arg7 harg7 arg8 harg8 arg9 harg9 arg10 harg10 x0 x1 x2 x3
  | 4 => kernelRun0_A.sl.HS3_4 c i arg2 harg2 arg3 harg3 arg4 harg4 arg5 harg5 arg6 harg6 arg7 harg7 arg8 harg8 arg9 harg9 arg10 harg10 x0 x1 x2 x3
  | 5 => kernelRun0_A.sl.HS3_5 c i arg2 harg2 arg3 harg3 arg4 harg4 arg5 harg5 arg6 harg6 arg7 harg7 arg8 harg8 arg9 harg9 arg10 harg10 x0 x1 x2 x3
  | 6 => kernelRun0_A.sl.HS3_6 c i arg2 harg2 arg3 harg3 arg4 harg4 arg5 harg5 arg6 harg6 arg7 harg7 arg8 harg8 arg9 harg9 arg10 harg10 x0 x1 x2 x3
  | 7 => kernelRun0_A.sl.HS3_7 c i arg2 harg2 arg3 harg3 arg4 harg4 arg5 harg5 arg6 harg6 arg7 harg7 arg8 harg8 arg9 harg9 arg10 harg10 x0 x1 x2 x3
  | 8 => kernelRun0_A.sl.HS3_8 c i arg2 harg2 arg3 harg3 arg4 harg4 arg5 harg5 arg6 harg6 arg7 harg7 arg8 harg8 arg9 harg9 arg10 harg10 x0 x1 x2 x3
  | 9 => kernelRun0_A.sl.HS3_9 c i arg2 harg2 arg3 harg3 arg4 harg4 arg5 harg5 arg6 harg6 arg7 harg7 arg8 harg8 arg9 harg9 arg10 harg10 x0 x1 x2 x3
  | 10 => kernelRun0_A.sl.HS3_10 c i arg2 harg2 arg3 harg3 arg4 harg4 arg5 harg5 arg6 harg6 arg7 harg7 arg8 harg8 arg9 harg9 arg10 harg10 x0 x1 x2 x3
  | 11 => kernelRun0_A.sl.HS3_11 c i arg2 harg2 arg3 harg3 arg4 harg4 arg5 harg5 arg6 harg6 arg7 harg7 arg8 harg8 arg9 harg9 arg10 harg10 x0 x1 x2 x3
  | 12 => kernelRun0_A.sl.HS3_12 c i arg2 harg2 arg3 harg3 arg4 harg4 arg5 harg5 arg6 harg6 arg7 harg7 arg8 harg8 arg9 harg9 arg10 harg10 x0 x1 x2 x3
  | 13 => kernelRun0_A.sl.HS3_13 c i arg2 harg2 arg3 harg3 arg4 harg4 arg5 harg5 arg6 harg6 arg7 harg7 arg8 harg8 arg9 harg9 arg10 harg10 x0 x1 x2 x3
  | 14 => kernelRun0_A.sl.HS3_14 c i arg2 harg2 arg3 harg3 arg4 harg4 arg5 harg5 arg6 harg6 arg7 harg7 arg8 harg8 arg9 harg9 arg10 harg10 x0 x1 x2 x3
  | 15 => kernelRun0_A.sl.HS3_15 c i arg2 harg2 arg3 harg3 arg4 harg4 arg5 harg5 arg6 harg6 arg7 harg7 arg8 harg8 arg9 harg9 arg10 harg10 x0 x1 x2 x3
  | _ => kernelRun0_A.sl.HS3_16 c i arg2 harg2 arg3 harg3 arg4 harg4 arg5 harg5 arg6 harg6 arg7 harg7 arg8 harg8 arg9 harg9 arg10 harg10 x0 x1 x2 x3

set_option maxHeartbeats 4000000

/-- The run's writes to the maxima go slot by slot. -/
theorem ranMax_succ (j : ℕ) (hj : j < 15) :
    ranMax c i arg2 harg2 arg3 harg3 arg4 harg4 arg5 harg5 arg6 harg6 arg7 harg7 arg8 harg8 arg9 harg9 arg10 harg10 x0 x1 x2 x3 (j + 1)
      = piece j (stored (newMax (lastScores i arg2 harg2 arg3 harg3 arg5 harg5 arg7 x0 x1 x3 j) (held arg8.view (ranMax c i arg2 harg2 arg3 harg3 arg4 harg4 arg5 harg5 arg6 harg6 arg7 harg7 arg8 harg8 arg9 harg9 arg10 harg10 x0 x1 x2 x3 j) j))) :: ranMax c i arg2 harg2 arg3 harg3 arg4 harg4 arg5 harg5 arg6 harg6 arg7 harg7 arg8 harg8 arg9 harg9 arg10 harg10 x0 x1 x2 x3 j := by
  interval_cases j <;> exact (rfl)

/-- The run's writes to the sums go slot by slot. -/
theorem ranSum_succ (j : ℕ) (hj : j < 16) :
    ranSum c i arg2 harg2 arg3 harg3 arg4 harg4 arg5 harg5 arg6 harg6 arg7 harg7 arg8 harg8 arg9 harg9 arg10 harg10 x0 x1 x2 x3 (j + 1)
      = piece j (stored (newSum (lastScores i arg2 harg2 arg3 harg3 arg5 harg5 arg7 x0 x1 x3 j) (held arg8.view (ranMax c i arg2 harg2 arg3 harg3 arg4 harg4 arg5 harg5 arg6 harg6 arg7 harg7 arg8 harg8 arg9 harg9 arg10 harg10 x0 x1 x2 x3 j) j) (held arg9.view (ranSum c i arg2 harg2 arg3 harg3 arg4 harg4 arg5 harg5 arg6 harg6 arg7 harg7 arg8 harg8 arg9 harg9 arg10 harg10 x0 x1 x2 x3 j) j))) :: ranSum c i arg2 harg2 arg3 harg3 arg4 harg4 arg5 harg5 arg6 harg6 arg7 harg7 arg8 harg8 arg9 harg9 arg10 harg10 x0 x1 x2 x3 j := by
  interval_cases j <;> exact (rfl)

/-- The run's writes to the accumulators go slot by slot. -/
theorem ranAcc_succ (j : ℕ) (hj : j < 16) :
    ranAcc c i arg2 harg2 arg3 harg3 arg4 harg4 arg5 harg5 arg6 harg6 arg7 harg7 arg8 harg8 arg9 harg9 arg10 harg10 x0 x1 x2 x3 (j + 1)
      = piece j (stored (newAcc (lastScores i arg2 harg2 arg3 harg3 arg5 harg5 arg7 x0 x1 x3) (fun j => held arg8.view (ranMax c i arg2 harg2 arg3 harg3 arg4 harg4 arg5 harg5 arg6 harg6 arg7 harg7 arg8 harg8 arg9 harg9 arg10 harg10 x0 x1 x2 x3 j) j) (fun _ => held arg10.view (ranAcc c i arg2 harg2 arg3 harg3 arg4 harg4 arg5 harg5 arg6 harg6 arg7 harg7 arg8 harg8 arg9 harg9 arg10 harg10 x0 x1 x2 x3 j) j)
          (lastTile arg4.view (harg4.unread x2) i) j)) :: ranAcc c i arg2 harg2 arg3 harg3 arg4 harg4 arg5 harg5 arg6 harg6 arg7 harg7 arg8 harg8 arg9 harg9 arg10 harg10 x0 x1 x2 x3 j := by
  interval_cases j <;> exact (rfl)

/-- What a grid point writes: for each head, the accumulator over the sum that the run left. -/
theorem ran_pieces :
    (kernelRun0_A (F := Ideal) c i arg2 harg2 arg3 harg3 arg4 harg4 arg5 harg5 arg6 harg6 arg7 harg7 arg8 harg8 arg9 harg9 arg10 harg10 x0 x1 x2 x3).1
      = outPieces (fun j => held arg10.view (ranAcc c i arg2 harg2 arg3 harg3 arg4 harg4 arg5 harg5 arg6 harg6 arg7 harg7 arg8 harg8 arg9 harg9 arg10 harg10 x0 x1 x2 x3 16) j) (fun j => held arg9.view (ranSum c i arg2 harg2 arg3 harg3 arg4 harg4 arg5 harg5 arg6 harg6 arg7 harg7 arg8 harg8 arg9 harg9 arg10 harg10 x0 x1 x2 x3 16) j) 16 := by
  unfold kernelRun0_A
  dsimp only
  rfl

end Run

end Cert.FoxIdeal.Flash
-- ==== Proof.FlashState.lean ====
module

public import proofs.«01_k».proof.Proof.FlashRun
public import Idealize.ShloMosaic.Lib.Pipeline.ValueKit
public import Idealize.ShloMosaic.Lib.Pipeline.ReadBack

@[expose] public section

set_option maxRecDepth 16384

/-!
# The three arrays along a grid point's run

Before the main loop, after each of its trips, and after the masked last step: what each slot holds, as a step of the
online softmax over what it held.
-/

noncomputable section

open Idealize.ShloMosaic Idealize.ShloMosaic.TcCoe Idealize.SL.Sem
open Idealize.ShloMosaic.Pipeline (Dat)

namespace Cert.FoxIdeal.Flash

open Cert.FoxIdeal Cert.FoxIdeal.Gen

/-! ## Writes that go slot by slot -/

/-- A slot not yet reached is as it was at the start. -/
theorem held_ge (v : View sig .tc .vmem S4x2048x128 .f32) (f : ℕ → List (View.Piece (Elt Ideal) S4x2048x128 .f32))
    (w : ℕ → FVec Ideal S512x128 .f32) (N : ℕ) (h : ∀ j, j < N → f (j + 1) = piece j (w j) :: f j) (n : ℕ) (hn : n ≤ N)
    (j : ℕ) (hj : n ≤ j) (h16 : j < 16) : held v (f n) j = held v (f 0) j := by
  induction n with
  | zero => rfl
  | succ n ih =>
    rw [h n (by omega)]
    exact (slotOf_miss v _ n j (w n) _ (by omega)).trans (ih (by omega) (by omega))

/-- A slot reached holds what was written to it. -/
theorem held_lt (v : View sig .tc .vmem S4x2048x128 .f32) (f : ℕ → List (View.Piece (Elt Ideal) S4x2048x128 .f32))
    (w : ℕ → FVec Ideal S512x128 .f32) (N : ℕ) (h16 : N ≤ 16) (h : ∀ j, j < N → f (j + 1) = piece j (w j) :: f j) (n : ℕ) (hn : n ≤ N)
    (j : ℕ) (hj : j < n) : held v (f n) j = w j := by
  induction n with
  | zero => omega
  | succ n ih =>
    rw [h n (by omega)]
    by_cases e : j = n
    · subst e; exact slotOf_hit v _ j (w j) _
    · exact (slotOf_miss v _ n j (w n) _ (by omega)).trans (ih (by omega) (by omega))

/-- The new accumulator of a slot reads the maxima of its plane only, and its own slot's accumulator. -/
theorem newAcc_congr (s : ℕ → FVec Ideal S512x512 .f32) (m m' a a' : ℕ → FVec Ideal S512x128 .f32) (vt : ℕ → FVec Ideal S512x128 .bf16)
    (j : ℕ) (hj : j < 16) (hm : ∀ n, n < 16 → m n = m' n) (ha : a j = a' j) : newAcc s m a vt j = newAcc s m' a' vt j := by
  have h := hm j hj
  have h0 := hm (4 * (j / 4 % 4)) (by omega)
  have h1 := hm (4 * (j / 4 % 4) + 1) (by omega)
  have h2 := hm (4 * (j / 4 % 4) + 2) (by omega)
  have h3 := hm (4 * (j / 4 % 4) + 3) (by omega)
  unfold newAcc weighted
  rw [h, h0, h1, h2, h3, ha]

/-- A store's cast keeps the vector. -/
theorem stored_eq (w : FVec Ideal S512x128 .f32) : stored w = w := shapeCast_self w _

/-- After a pass over the sixteen slots, a slot holds what the pass wrote to it. -/
theorem held_pass (v : View sig .tc .vmem S4x2048x128 .f32) (w : ℕ → FVec Ideal S512x128 .f32)
    (L L' : List (View.Piece (Elt Ideal) S4x2048x128 .f32)) (j : ℕ) (hj : j < 16) : held v ((pass (fun j => stored (w j)) [] 16 ++ L) ++ L') j = w j := by
  rw [List.append_assoc, pass_append]
  exact (slotOf_pass_lt v _ _ _ j 16 (le_refl _) hj).trans (stored_eq _)

section Run

variable (c : Dev nD) (i : grid0.Coords)
    (arg2 : Memref sig .tc .vmem S512x2048 .bf16) (harg2 : arg2.IsWhole) (arg3 : Memref sig .tc .vmem S4096x512 .bf16) (harg3 : arg3.IsWhole)
    (arg4 : Memref sig .tc .vmem S4096x512 .bf16) (harg4 : arg4.IsWhole) (arg5 : Memref sig .tc .vmem S1x16x4096 .f32) (harg5 : arg5.IsWhole)
    (arg6 : Memref sig .tc .vmem S512x2048 .bf16) (harg6 : arg6.IsWhole) (arg7 : Memref sig .tc .vmem S4x2048x128 .bf16) (harg7 : arg7.IsWhole)
    (arg8 : Memref sig .tc .vmem S4x2048x128 .f32) (harg8 : arg8.IsWhole) (arg9 : Memref sig .tc .vmem S4x2048x128 .f32) (harg9 : arg9.IsWhole)
    (arg10 : Memref sig .tc .vmem S4x2048x128 .f32) (harg10 : arg10.IsWhole)
    (x0 : Vec Ideal S512x2048 .bf16) (x1 : Vec Ideal S4096x512 .bf16) (x2 : Vec Ideal S4096x512 .bf16) (x3 : Vec Ideal S1x16x4096 .f32)

/-- The main loop makes as many trips as the query block's place. -/
theorem trips_eq : ∀ i : grid0.Coords, (k0_t1_loop i).trips = (i 1).val := by decide +kernel

/-- The leftover loop makes none. -/
theorem left_zero (i : grid0.Coords) : Scf.trips (k0_t2_loop i).lb (k0_t2_loop i).ub (k0_t2_loop i).st = 0 :=
  Nat.le_zero.mp (k0_t2_abs i).2.1

/-- The leftover loop writes nothing. -/
theorem leftState_eq : (leftState c i arg2 harg2 arg3 harg3 arg4 harg4 arg5 harg5 arg6 harg6 arg7 harg7 arg8 harg8 arg9 harg9 arg10 harg10 x0 x1 x2 x3).2 = ([], [], []) := by
  show (st_k0_t2 (F := Ideal) _ _ _ _ _ _ _ _ _ _ _ _ _ _ _ _ _ _ _ _ _ _ _ _ _ _ _ _ _ _ _ _ _ _ _ _ _ _).2 = _
  rw [left_zero i]
  rfl

/-- The scores of slot `j` in trip `k` of the main loop. -/
abbrev tripScores (k : Fin (k0_t1_loop i).trips) (j : ℕ) : FVec Ideal S512x512 .f32 :=
  scores (queries arg7.view (regrouped arg2 harg2 arg7 x0)) (tripTile arg3.view (harg3.unread x1) i k)
    (tripBias arg5.view (harg5.unread x3) i (firstCum i arg5 harg5 x3) k) j

/-- The running maximum of slot `j` before trip `k`. -/
abbrev maxAt (k j : ℕ) : FVec Ideal S512x128 .f32 := held arg8.view ((mainState c i arg2 harg2 arg3 harg3 arg4 harg4 arg5 harg5 arg6 harg6 arg7 harg7 arg8 harg8 arg9 harg9 arg10 harg10 x0 x1 x2 x3 k).2.1 ++ startMax) j
/-- The running sum of slot `j` before trip `k`. -/
abbrev sumAt (k j : ℕ) : FVec Ideal S512x128 .f32 := held arg9.view ((mainState c i arg2 harg2 arg3 harg3 arg4 harg4 arg5 harg5 arg6 harg6 arg7 harg7 arg8 harg8 arg9 harg9 arg10 harg10 x0 x1 x2 x3 k).2.2.1 ++ startSum) j
/-- The accumulator of slot `j` before trip `k`. -/
abbrev accAt (k j : ℕ) : FVec Ideal S512x128 .f32 := held arg10.view ((mainState c i arg2 harg2 arg3 harg3 arg4 harg4 arg5 harg5 arg6 harg6 arg7 harg7 arg8 harg8 arg9 harg9 arg10 harg10 x0 x1 x2 x3 k).2.2.2 ++ startAcc) j

/-- One trip of the main loop is a step of the online softmax in every slot. -/
theorem trip_step (k : Fin (k0_t1_loop i).trips) (j : ℕ) (hj : j < 16) :
    maxAt c i arg2 harg2 arg3 harg3 arg4 harg4 arg5 harg5 arg6 harg6 arg7 harg7 arg8 harg8 arg9 harg9 arg10 harg10 x0 x1 x2 x3 (k.val + 1) j = newMax (tripScores i arg2 harg2 arg3 harg3 arg5 harg5 arg7 x0 x1 x3 k j) (maxAt c i arg2 harg2 arg3 harg3 arg4 harg4 arg5 harg5 arg6 harg6 arg7 harg7 arg8 harg8 arg9 harg9 arg10 harg10 x0 x1 x2 x3 k.val j)
    ∧ sumAt c i arg2 harg2 arg3 harg3 arg4 harg4 arg5 harg5 arg6 harg6 arg7 harg7 arg8 harg8 arg9 harg9 arg10 harg10 x0 x1 x2 x3 (k.val + 1) j = newSum (tripScores i arg2 harg2 arg3 harg3 arg5 harg5 arg7 x0 x1 x3 k j) (maxAt c i arg2 harg2 arg3 harg3 arg4 harg4 arg5 harg5 arg6 harg6 arg7 harg7 arg8 harg8 arg9 harg9 arg10 harg10 x0 x1 x2 x3 k.val j) (sumAt c i arg2 harg2 arg3 harg3 arg4 harg4 arg5 harg5 arg6 harg6 arg7 harg7 arg8 harg8 arg9 harg9 arg10 harg10 x0 x1 x2 x3 k.val j)
    ∧ accAt c i arg2 harg2 arg3 harg3 arg4 harg4 arg5 harg5 arg6 harg6 arg7 harg7 arg8 harg8 arg9 harg9 arg10 harg10 x0 x1 x2 x3 (k.val + 1) j = newAcc (tripScores i arg2 harg2 arg3 harg3 arg5 harg5 arg7 x0 x1 x3 k) (maxAt c i arg2 harg2 arg3 harg3 arg4 harg4 arg5 harg5 arg6 harg6 arg7 harg7 arg8 harg8 arg9 harg9 arg10 harg10 x0 x1 x2 x3 k.val) (accAt c i arg2 harg2 arg3 harg3 arg4 harg4 arg5 harg5 arg6 harg6 arg7 harg7 arg8 harg8 arg9 harg9 arg10 harg10 x0 x1 x2 x3 k.val) (tripTile arg4.view (harg4.unread x2) i k) j := by
  have h := st_k0_t1_succ (F := Ideal) Variants.none c none i arg2 harg2 arg3 harg3 arg4 harg4 arg5 harg5 arg6 harg6 arg7 harg7 arg8 harg8 arg9 harg9 arg10 harg10
    (kernelRun0_A.sl.v0 i) (kernelRun0_A.sl.v21 i)
    (firstCum i arg5 harg5 x3) kernelRun0_A.sl.v26 kernelRun0_A.sl.v27 (headCols arg2 harg2 x0 12)
    (harg3.unread x1) (harg4.unread x2) (harg5.unread x3) (regrouped arg2 harg2 arg7 x0)
    (arg8.view.writes (Elt Ideal) arg8.view.junk startMax) (arg9.view.writes (Elt Ideal) arg9.view.junk startSum)
    (arg10.view.writes (Elt Ideal) arg10.view.junk startAcc) 0#32 k
  rw [trip_pieces] at h
  have h8 := congrArg (fun s => s.2.1) h
  have h9 := congrArg (fun s => s.2.2.1) h
  have h10 := congrArg (fun s => s.2.2.2) h
  clear h
  dsimp only at h8 h9 h10
  refine ⟨?_, ?_, ?_⟩
  · refine (congrArg (fun L => held arg8.view (L ++ startMax) j) h8).trans ((held_pass arg8.view _ _ _ j hj).trans ?_)
    rw [← View.writes_append]
    rfl
  · refine (congrArg (fun L => held arg9.view (L ++ startSum) j) h9).trans ((held_pass arg9.view _ _ _ j hj).trans ?_)
    rw [← View.writes_append, ← View.writes_append]
    rfl
  · refine (congrArg (fun L => held arg10.view (L ++ startAcc) j) h10).trans ((held_pass arg10.view _ _ _ j hj).trans ?_)
    refine newAcc_congr _ _ _ _ _ _ j hj (fun n _ => ?_) ?_
    · exact congrArg (fun f => slotOf arg8.view f n) (View.writes_append _ _ _ _).symm
    · exact congrArg (fun f => slotOf arg10.view f j) (View.writes_append _ _ _ _).symm

/-- What slot `j` holds at the end: the masked last step over what the main loop left. -/
theorem last_step (j : ℕ) (hj : j < 16) :
    held arg9.view (ranSum c i arg2 harg2 arg3 harg3 arg4 harg4 arg5 harg5 arg6 harg6 arg7 harg7 arg8 harg8 arg9 harg9 arg10 harg10 x0 x1 x2 x3 16) j
      = newSum (lastScores i arg2 harg2 arg3 harg3 arg5 harg5 arg7 x0 x1 x3 j) (maxAt c i arg2 harg2 arg3 harg3 arg4 harg4 arg5 harg5 arg6 harg6 arg7 harg7 arg8 harg8 arg9 harg9 arg10 harg10 x0 x1 x2 x3 (i 1).val j) (sumAt c i arg2 harg2 arg3 harg3 arg4 harg4 arg5 harg5 arg6 harg6 arg7 harg7 arg8 harg8 arg9 harg9 arg10 harg10 x0 x1 x2 x3 (i 1).val j)
    ∧ held arg10.view (ranAcc c i arg2 harg2 arg3 harg3 arg4 harg4 arg5 harg5 arg6 harg6 arg7 harg7 arg8 harg8 arg9 harg9 arg10 harg10 x0 x1 x2 x3 16) j
      = newAcc (lastScores i arg2 harg2 arg3 harg3 arg5 harg5 arg7 x0 x1 x3) (maxAt c i arg2 harg2 arg3 harg3 arg4 harg4 arg5 harg5 arg6 harg6 arg7 harg7 arg8 harg8 arg9 harg9 arg10 harg10 x0 x1 x2 x3 (i 1).val) (accAt c i arg2 harg2 arg3 harg3 arg4 harg4 arg5 harg5 arg6 harg6 arg7 harg7 arg8 harg8 arg9 harg9 arg10 harg10 x0 x1 x2 x3 (i 1).val) (lastTile arg4.view (harg4.unread x2) i) j := by
  have hb := leftState_eq c i arg2 harg2 arg3 harg3 arg4 harg4 arg5 harg5 arg6 harg6 arg7 harg7 arg8 harg8 arg9 harg9 arg10 harg10 x0 x1 x2 x3
  have ht : mainTrips i = (i 1).val := trips_eq i
  have h8 : beforeMax c i arg2 harg2 arg3 harg3 arg4 harg4 arg5 harg5 arg6 harg6 arg7 harg7 arg8 harg8 arg9 harg9 arg10 harg10 x0 x1 x2 x3 = (mainState c i arg2 harg2 arg3 harg3 arg4 harg4 arg5 harg5 arg6 harg6 arg7 harg7 arg8 harg8 arg9 harg9 arg10 harg10 x0 x1 x2 x3 (i 1).val).2.1 ++ startMax := by
    show (leftState c i arg2 harg2 arg3 harg3 arg4 harg4 arg5 harg5 arg6 harg6 arg7 harg7 arg8 harg8 arg9 harg9 arg10 harg10 x0 x1 x2 x3).2.1 ++ _ = _
    rw [hb, ht]; rfl
  have h9 : beforeSum c i arg2 harg2 arg3 harg3 arg4 harg4 arg5 harg5 arg6 harg6 arg7 harg7 arg8 harg8 arg9 harg9 arg10 harg10 x0 x1 x2 x3 = (mainState c i arg2 harg2 arg3 harg3 arg4 harg4 arg5 harg5 arg6 harg6 arg7 harg7 arg8 harg8 arg9 harg9 arg10 harg10 x0 x1 x2 x3 (i 1).val).2.2.1 ++ startSum := by
    show (leftState c i arg2 harg2 arg3 harg3 arg4 harg4 arg5 harg5 arg6 harg6 arg7 harg7 arg8 harg8 arg9 harg9 arg10 harg10 x0 x1 x2 x3).2.2.1 ++ _ = _
    rw [hb, ht]; rfl
  have h10 : beforeAcc c i arg2 harg2 arg3 harg3 arg4 harg4 arg5 harg5 arg6 harg6 arg7 harg7 arg8 harg8 arg9 harg9 arg10 harg10 x0 x1 x2 x3 = (mainState c i arg2 harg2 arg3 harg3 arg4 harg4 arg5 harg5 arg6 harg6 arg7 harg7 arg8 harg8 arg9 harg9 arg10 harg10 x0 x1 x2 x3 (i 1).val).2.2.2 ++ startAcc := by
    show (leftState c i arg2 harg2 arg3 harg3 arg4 harg4 arg5 harg5 arg6 harg6 arg7 harg7 arg8 harg8 arg9 harg9 arg10 harg10 x0 x1 x2 x3).2.2.2 ++ _ = _
    rw [hb, ht]; rfl
  have hm : ∀ n, n < 16 → held arg8.view (ranMax c i arg2 harg2 arg3 harg3 arg4 harg4 arg5 harg5 arg6 harg6 arg7 harg7 arg8 harg8 arg9 harg9 arg10 harg10 x0 x1 x2 x3 n) n = maxAt c i arg2 harg2 arg3 harg3 arg4 harg4 arg5 harg5 arg6 harg6 arg7 harg7 arg8 harg8 arg9 harg9 arg10 harg10 x0 x1 x2 x3 (i 1).val n := fun n hn =>
    (held_ge arg8.view (ranMax c i arg2 harg2 arg3 harg3 arg4 harg4 arg5 harg5 arg6 harg6 arg7 harg7 arg8 harg8 arg9 harg9 arg10 harg10 x0 x1 x2 x3) _ 15 (fun j h => ranMax_succ c i arg2 harg2 arg3 harg3 arg4 harg4 arg5 harg5 arg6 harg6 arg7 harg7 arg8 harg8 arg9 harg9 arg10 harg10 x0 x1 x2 x3 j h) n (by omega) n (le_refl n) hn).trans
      (congrArg (fun L => held arg8.view L n) h8)
  have hs : ∀ n, n < 16 → held arg9.view (ranSum c i arg2 harg2 arg3 harg3 arg4 harg4 arg5 harg5 arg6 harg6 arg7 harg7 arg8 harg8 arg9 harg9 arg10 harg10 x0 x1 x2 x3 n) n = sumAt c i arg2 harg2 arg3 harg3 arg4 harg4 arg5 harg5 arg6 harg6 arg7 harg7 arg8 harg8 arg9 harg9 arg10 harg10 x0 x1 x2 x3 (i 1).val n := fun n hn =>
    (held_ge arg9.view (ranSum c i arg2 harg2 arg3 harg3 arg4 harg4 arg5 harg5 arg6 harg6 arg7 harg7 arg8 harg8 arg9 harg9 arg10 harg10 x0 x1 x2 x3) _ 16 (fun j h => ranSum_succ c i arg2 harg2 arg3 harg3 arg4 harg4 arg5 harg5 arg6 harg6 arg7 harg7 arg8 harg8 arg9 harg9 arg10 harg10 x0 x1 x2 x3 j h) n (by omega) n (le_refl n) hn).trans
      (congrArg (fun L => held arg9.view L n) h9)
  have ha : ∀ n, n < 16 → held arg10.view (ranAcc c i arg2 harg2 arg3 harg3 arg4 harg4 arg5 harg5 arg6 harg6 arg7 harg7 arg8 harg8 arg9 harg9 arg10 harg10 x0 x1 x2 x3 n) n = accAt c i arg2 harg2 arg3 harg3 arg4 harg4 arg5 harg5 arg6 harg6 arg7 harg7 arg8 harg8 arg9 harg9 arg10 harg10 x0 x1 x2 x3 (i 1).val n := fun n hn =>
    (held_ge arg10.view (ranAcc c i arg2 harg2 arg3 harg3 arg4 harg4 arg5 harg5 arg6 harg6 arg7 harg7 arg8 harg8 arg9 harg9 arg10 harg10 x0 x1 x2 x3) _ 16 (fun j h => ranAcc_succ c i arg2 harg2 arg3 harg3 arg4 harg4 arg5 harg5 arg6 harg6 arg7 harg7 arg8 harg8 arg9 harg9 arg10 harg10 x0 x1 x2 x3 j h) n (by omega) n (le_refl n) hn).trans
      (congrArg (fun L => held arg10.view L n) h10)
  refine ⟨?_, ?_⟩
  · refine (held_lt arg9.view (ranSum c i arg2 harg2 arg3 harg3 arg4 harg4 arg5 harg5 arg6 harg6 arg7 harg7 arg8 harg8 arg9 harg9 arg10 harg10 x0 x1 x2 x3) _ 16 (le_refl _) (fun j h => ranSum_succ c i arg2 harg2 arg3 harg3 arg4 harg4 arg5 harg5 arg6 harg6 arg7 harg7 arg8 harg8 arg9 harg9 arg10 harg10 x0 x1 x2 x3 j h) 16 (le_refl _) j hj).trans ((stored_eq _).trans ?_)
    rw [hm j hj, hs j hj]
  · refine (held_lt arg10.view (ranAcc c i arg2 harg2 arg3 harg3 arg4 harg4 arg5 harg5 arg6 harg6 arg7 harg7 arg8 harg8 arg9 harg9 arg10 harg10 x0 x1 x2 x3) _ 16 (le_refl _) (fun j h => ranAcc_succ c i arg2 harg2 arg3 harg3 arg4 harg4 arg5 harg5 arg6 harg6 arg7 harg7 arg8 harg8 arg9 harg9 arg10 harg10 x0 x1 x2 x3 j h) 16 (le_refl _) j hj).trans ((stored_eq _).trans ?_)
    exact newAcc_congr _ _ _ _ _ _ j hj hm (ha j hj)

end Run

end Cert.FoxIdeal.Flash
-- ==== Proof.FlashValue.lean ====
module

public import proofs.«01_k».proof.Proof.FlashTrip
public import proofs.«01_k».proof.Proof.FlashMath
public import Idealize.ShloMosaic.Lib.Pipeline.ValueKit

@[expose] public section

set_option maxRecDepth 16384

/-!
# One step of the online softmax, element by element
-/

noncomputable section

open Idealize.ShloMosaic Idealize.ShloMosaic.TcCoe Idealize.SL.Sem
open Idealize.ShloMosaic.Pipeline (Dat)

namespace Cert.FoxIdeal.Flash

open Cert.FoxIdeal Cert.FoxIdeal.Gen

/-- The word that a maximum starts from denotes `⊥`. -/
theorem lowest : Ideal.ofBits .f32 0xFF800000#32 = ⊥ := by
  simp [Ideal.ofBits, Ideal.ieee]

/-- The largest score of row `r` in a block, in every lane. -/
theorem rowMax_at (s : FVec Ideal S512x512 .f32) (r : Fin 512) (d : Fin 128) :
    broadcastTo S512x128 (shapeCast S512x1
      (multiReduction .maximumf [1] S512 s 0xFF800000#32 reduces_S512x512_S512 (.inl rfl) rfl)
      shapeCasts_S512_S512x1) broadcasts_S512x1_S512x128 (ix2 r d)
      = Finset.univ.fold max (⊥ : EReal) fun k : Fin 512 => s (ix2 r k) := by
  pointwise
  rw [lowest]

/-- The new running maximum, at an element. -/
theorem newMax_at (s : FVec Ideal S512x512 .f32) (m : FVec Ideal S512x128 .f32) (r : Fin 512) (d : Fin 128) :
    newMax s m (ix2 r d) = max (m (ix2 r d)) (Finset.univ.fold max (⊥ : EReal) fun k : Fin 512 => s (ix2 r k)) := by
  rw [← rowMax_at s r d]; rfl

/-- A weight, at an element: the lanes of the running maximum repeat along the keys. -/
theorem weights_at (s : FVec Ideal S512x512 .f32) (m : FVec Ideal S512x128 .f32) (r : Fin 512) (k : Fin 512) :
    weights s m (ix2 r k) = Ideal.exp2 (s (ix2 r k) - newMax s m (ix2 r ⟨k.val % 128, by omega⟩)) := by
  unfold weights
  generalize newMax s m = M
  pointwise
  refine congrArg (fun z => Ideal.exp2 (s (ix2 r k) - z)) ?_
  split_ifs <;> exact congrArg M ((ix2_inj ..).2 ⟨rfl, Fin.ext (by show _ = k.val % 128; simp only []; omega)⟩)

/-- The new running sum, at an element. -/
theorem newSum_at (s : FVec Ideal S512x512 .f32) (m l : FVec Ideal S512x128 .f32) (r : Fin 512) (d : Fin 128) :
    newSum s m l (ix2 r d) = Ideal.exp2 (m (ix2 r d) - newMax s m (ix2 r d)) * l (ix2 r d)
      + ∑ k : Fin 512, weights s m (ix2 r k) := by
  unfold newSum rescale
  generalize weights s m = W
  generalize newMax s m = M
  pointwise
  rfl

/-- The weighted values of one head among the four of its plane, at an element. -/
theorem weighted_at (w0 w1 w2 w3 : FVec Ideal S512x512 .f32) (v : FVec Ideal S512x128 .bf16) (g : ℕ) (hg : g < 4) (r : Fin 512) (d : Fin 128) :
    extractStridedSlice S512x128 ![512 * (g % 4), 0] (matmul dot_S2048x512_S512x128_S2048x128_1_0_0_1_n_n none
    (concatenate S2048x512 0
      [⟨S512x512, truncf .bf16 w0 bitsLt_bf16_f32⟩, ⟨S512x512, truncf .bf16 w1 bitsLt_bf16_f32⟩,
        ⟨S512x512, truncf .bf16 w2 bitsLt_bf16_f32⟩, ⟨S512x512, truncf .bf16 w3 bitsLt_bf16_f32⟩]
      concatenates_S512x512_S512x512_S512x512_S512x512_S2048x512_d0)
    v (constant S2048x128 .f32 0x00000000#32)) (rowsSlice g) (ix2 r d)
      = ∑ k : Fin 512, (match g with | 0 => w0 | 1 => w1 | 2 => w2 | _ => w3) (ix2 r k) * v (ix2 k d) := by
  interval_cases g
  all_goals
    pointwise
    try
      refine Finset.sum_congr rfl fun k _ => congrArg (· * v (ix2 k d)) ?_
      split_ifs <;> first | omega | exact congrArg _ ((ix2_inj ..).2 ⟨Fin.ext (by simp only []; omega), rfl⟩)

/-- A score, at an element. -/
theorem scores_at (q : ℕ → FVec Ideal S2048x128 .bf16) (kt : ℕ → FVec Ideal S512x128 .bf16) (b : FVec Ideal S16x512 .f32) (j : ℕ) (hj : j < 16) (r k : Fin 512) :
    scores q kt b j (ix2 r k) = (∑ e : Fin 128, q (j / 4 % 4) (ix2 ⟨512 * (j % 4) + r.val, by omega⟩ e) * kt (j / 4 % 4) (ix2 k e))
      + b (ix2 ⟨j % 16, by omega⟩ k) := by
  unfold scores
  pointwise

/-- The new accumulator of a slot, at an element. -/
theorem newAcc_at (s : ℕ → FVec Ideal S512x512 .f32) (m a : ℕ → FVec Ideal S512x128 .f32) (vt : ℕ → FVec Ideal S512x128 .bf16)
    (j : ℕ) (hj : j < 16) (r : Fin 512) (d : Fin 128) :
    newAcc s m a vt j (ix2 r d) = a j (ix2 r d) * Ideal.exp2 (m j (ix2 r d) - newMax (s j) (m j) (ix2 r d))
      + ∑ k : Fin 512, weights (s j) (m j) (ix2 r k) * vt (j / 4 % 4) (ix2 k d) := by
  have key : ∀ g n : ℕ, g < 4 → j = 4 * n + g →
      ((match g with
        | 0 => weights (s (4 * n)) (m (4 * n))
        | 1 => weights (s (4 * n + 1)) (m (4 * n + 1))
        | 2 => weights (s (4 * n + 2)) (m (4 * n + 2))
        | _ => weights (s (4 * n + 3)) (m (4 * n + 3))) : FVec Ideal S512x512 .f32) = weights (s j) (m j) := by
    intro g n hg hj
    subst hj
    interval_cases g <;> rfl
  have h := weighted_at (weights (s (4 * (j / 4 % 4))) (m (4 * (j / 4 % 4)))) (weights (s (4 * (j / 4 % 4) + 1)) (m (4 * (j / 4 % 4) + 1)))
    (weights (s (4 * (j / 4 % 4) + 2)) (m (4 * (j / 4 % 4) + 2))) (weights (s (4 * (j / 4 % 4) + 3)) (m (4 * (j / 4 % 4) + 3))) (vt (j / 4 % 4)) (j % 4) (by omega) r d
  rw [key (j % 4) (j / 4 % 4) (by omega) (by omega)] at h
  rw [← h]
  simp only [Nat.mod_mod]
  rfl

end Cert.FoxIdeal.Flash

end
-- ==== Proof.FlashRead.lean ====
module

public import proofs.«01_k».proof.Proof.FlashRun
public import proofs.«01_k».proof.Proof.FlashValue
public import Idealize.ShloMosaic.Lib.Pipeline.ValueKit
public import Idealize.ShloMosaic.Lib.Pipeline.ReadBack
public import Idealize.ShloMosaic.Lib.WordCmp
public import Idealize.ShloMosaic.Lib.VecWindow

@[expose] public section

set_option maxRecDepth 16384

/-!
# What a grid point reads, element by element
-/

noncomputable section

open Idealize.ShloMosaic Idealize.ShloMosaic.TcCoe Idealize.SL.Sem
open Idealize.ShloMosaic.Pipeline (Dat)

namespace Cert.FoxIdeal.Flash

open Cert.FoxIdeal Cert.FoxIdeal.Gen

/-- The word that a mask starts from denotes `⊥`. -/
theorem mask_bot : (Named.named κ "mask" 0xF149F2CA#32 : Ideal .f32) = (⊥ : EReal) := (rfl)

/-- The named constant of the base change. -/
theorem log2e_real : (Named.named κ "log2e" 0x3FB8AA3B#32 : Ideal .f32) = (((Real.log 2)⁻¹ : ℝ) : EReal) := (rfl)

/-- A load of a block of keys or values, at an element. -/
theorem tile_at (v : Memref sig .tc .vmem S4096x512 .bf16) (h : v.IsWhole) (x : Vec Ideal S4096x512 .bf16)
    (off : Fin 2 → ℕ) (inb : ∀ a, off a + S512x128.size a ≤ S4096x512.size a) (a b : ℕ) (ho : off = ![a, b])
    (k : Fin 512) (e : Fin 128) (ha : a + 512 ≤ 4096) (hb : b + 128 ≤ 512) :
    shapeCast S512x128 (View.readAt (Elt Ideal) v.view (Rect.unit (s := S4096x512) off S512x128.size inb).toLoadRect (h.unread x))
      shapeCasts_S512x128_S512x128 (ix2 k e) = x (ix2 ⟨a + k.val, by omega⟩ ⟨b + e.val, by omega⟩) := by
  subst ho
  refine (congrFun (shapeCast_self (s := S512x128) _ _) _).trans ?_
  rw [View.readAt_apply, h.read_unread]
  refine congrArg x (funext fun p => Fin.ext ?_)
  fin_cases p
  · show a + 1 * k.val = a + k.val; omega
  · show b + 1 * e.val = b + e.val; omega

/-- A load of a head's queries, at an element. -/
theorem head_at (v : Memref sig .tc .vmem S512x2048 .bf16) (h : v.IsWhole) (x : Vec Ideal S512x2048 .bf16) (j : ℕ) (hj : j < 16)
    (r : Fin 512) (e : Fin 128) : headCols v h x j (ix2 r e) = x (ix2 r ⟨128 * j + e.val, by omega⟩) := by
  unfold headCols
  refine (congrFun (shapeCast_self (s := S512x128) _ _) _).trans ?_
  rw [View.readAt_apply, h.read_unread]
  refine congrArg x (funext fun p => Fin.ext ?_)
  fin_cases p
  · show 0 + 1 * r.val = r.val; omega
  · show 128 * (j % 16) + 1 * e.val = 128 * j + e.val; omega

/-- A load of cumulated gates, at an element. -/
theorem cum_at (v : Memref sig .tc .vmem S1x16x4096 .f32) (h : v.IsWhole) (x : Vec Ideal S1x16x4096 .f32)
    (off : Fin 3 → ℕ) (inb : ∀ a, off a + S1x16x512.size a ≤ S1x16x4096.size a) (a : ℕ) (ho : off = ![0, 0, a])
    (j : Fin 16) (k : Fin 512) (ha : a + 512 ≤ 4096) :
    View.readAt (Elt Ideal) v.view (Rect.unit (s := S1x16x4096) off S1x16x512.size inb).toLoadRect (h.unread x) (ix3 ⟨0, by omega⟩ j k)
      = x (ix3 ⟨0, by omega⟩ j ⟨a + k.val, by omega⟩) := by
  subst ho
  rw [View.readAt_apply, h.read_unread]
  refine congrArg x (funext fun p => Fin.ext ?_)
  fin_cases p
  · rfl
  · show 0 + 1 * j.val = j.val; omega
  · show a + 1 * k.val = a + k.val; omega

/-- A load of the cumulated gates of one column's block, at its first element. -/
theorem cum0_at (v : Memref sig .tc .vmem S1x16x4096 .f32) (h : v.IsWhole) (x : Vec Ideal S1x16x4096 .f32)
    (off : Fin 3 → ℕ) (inb : ∀ a, off a + S1x16x128.size a ≤ S1x16x4096.size a) (a : ℕ) (ho : off = ![0, 0, a])
    (j : Fin 16) (ha : a < 4096) :
    View.readAt (Elt Ideal) v.view (Rect.unit (s := S1x16x4096) off S1x16x128.size inb).toLoadRect (h.unread x) (ix3 ⟨0, by omega⟩ j ⟨0, by omega⟩)
      = x (ix3 ⟨0, by omega⟩ j ⟨a, ha⟩) := by
  subst ho
  rw [View.readAt_apply, h.read_unread]
  refine congrArg x (funext fun p => Fin.ext ?_)
  fin_cases p
  · rfl
  · show 0 + 1 * j.val = j.val; omega
  · show a + 1 * 0 = a; omega

/-- The first column of a block of cumulated gates. -/
theorem column_at (w : Vec Ideal S1x16x128 .f32) (j : Fin 16) :
    extractStridedSlice S16x1 ![0, 0] (shapeCast S16x128 w shapeCasts_S1x16x128_S16x128) slices_S16x128_o0_0_S16x1 (ix2 j ⟨0, by omega⟩)
      = w (ix3 ⟨0, by omega⟩ j ⟨0, by omega⟩) := by
  pointwise

/-- The cumulated gate at the block's first query, of head `j`. -/
theorem firstCum_at (i : grid0.Coords) (v : Memref sig .tc .vmem S1x16x4096 .f32) (h : v.IsWhole) (x : Vec Ideal S1x16x4096 .f32) (j : Fin 16)
    (hi : 512 * (i 1).val < 4096) :
    firstCum i v h x (ix2 j ⟨0, by omega⟩) = x (ix3 ⟨0, by omega⟩ j ⟨512 * (i 1).val, hi⟩) :=
  (column_at _ j).trans (cum0_at v h x _ _ _ (k0_off1_eq i) j hi)

/-- The bias of a trip, at an element. -/
theorem pay2_at (f : FVec Ideal S16x1 .f32) (w : Vec Ideal S1x16x512 .f32) (j : Fin 16) (k : Fin 512) :
    k0_pay2 f w (ix2 j k) = (f (ix2 j ⟨0, by omega⟩) - w (ix3 ⟨0, by omega⟩ j k)) * (((Real.log 2)⁻¹ : ℝ) : EReal) := by
  pointwise [k0_pay2]
  rfl

/-- The bias of the last step, at an element. -/
theorem pay304_at (f : FVec Ideal S16x1 .f32) (w : Vec Ideal S1x16x512 .f32) (j : Fin 16) (k : Fin 512) :
    k0_pay304 f w (ix2 j k) = (f (ix2 j ⟨0, by omega⟩) - w (ix3 ⟨0, by omega⟩ j k)) * (((Real.log 2)⁻¹ : ℝ) : EReal) := by
  pointwise [k0_pay304]
  rfl

/-- The keys or values of trip `k`, at an element. -/
theorem tripTile_at (v : Memref sig .tc .vmem S4096x512 .bf16) (h : v.IsWhole) (x : Vec Ideal S4096x512 .bf16) (i : grid0.Coords)
    (k : Fin (k0_t1_loop i).trips) (hk : 512 * k.val + 512 ≤ 4096) (n : ℕ) (hn : n < 4) (r : Fin 512) (e : Fin 128) :
    tripTile v.view (h.unread x) i k n (ix2 r e) = x (ix2 ⟨512 * k.val + r.val, by omega⟩ ⟨128 * n + e.val, by omega⟩) := by
  interval_cases n
  · exact tile_at v h x _ _ _ _ (k0_off3_eq i k) r e hk (by omega)
  · exact tile_at v h x _ _ _ _ (k0_off4_eq i k) r e hk (by omega)
  · exact tile_at v h x _ _ _ _ (k0_off5_eq i k) r e hk (by omega)
  · exact tile_at v h x _ _ _ _ (k0_off6_eq i k) r e hk (by omega)

/-- The keys or values of the last step, at an element. -/
theorem lastTile_at (v : Memref sig .tc .vmem S4096x512 .bf16) (h : v.IsWhole) (x : Vec Ideal S4096x512 .bf16) (i : grid0.Coords)
    (hk : 512 * (i 1).val + 512 ≤ 4096) (n : ℕ) (hn : n < 4) (r : Fin 512) (e : Fin 128) :
    lastTile v.view (h.unread x) i n (ix2 r e) = x (ix2 ⟨512 * (i 1).val + r.val, by omega⟩ ⟨128 * n + e.val, by omega⟩) := by
  interval_cases n
  · exact tile_at v h x _ _ _ _ (k0_off13_eq i) r e hk (by omega)
  · exact tile_at v h x _ _ _ _ (k0_off14_eq i) r e hk (by omega)
  · exact tile_at v h x _ _ _ _ (k0_off15_eq i) r e hk (by omega)
  · exact tile_at v h x _ _ _ _ (k0_off16_eq i) r e hk (by omega)

/-- Four heads' queries one under another, at an element. -/
theorem stack_at (w0 w1 w2 w3 : FVec Ideal S512x128 .bf16) (g : ℕ) (hg : g < 4) (r : Fin 512) (e : Fin 128) :
    shapeCast S1x2048x128 (concatenate S2048x128 0 [⟨S512x128, w0⟩, ⟨S512x128, w1⟩, ⟨S512x128, w2⟩, ⟨S512x128, w3⟩]
      concatenates_S512x128_S512x128_S512x128_S512x128_S2048x128_d0) shapeCasts_S2048x128_S1x2048x128
      (ix3 ⟨0, by omega⟩ ⟨512 * g + r.val, by omega⟩ e)
      = (match g with | 0 => w0 | 1 => w1 | 2 => w2 | _ => w3) (ix2 r e) := by
  interval_cases g
  all_goals
    pointwise
    try
      split_ifs <;> first | omega | exact congrArg _ ((ix2_inj ..).2 ⟨Fin.ext (by simp only []; omega), rfl⟩)

/-- A write of a plane is read back in it. -/
theorem plane_hit (u : View sig .tc .vmem S4x2048x128 .bf16) (f : u.ty.Contents (Elt Ideal)) (off : Fin 3 → ℕ)
    (inb : ∀ a, off a + S1x2048x128.size a ≤ S4x2048x128.size a) (w : FVec Ideal S1x2048x128 .bf16)
    (L : List (View.Piece (Elt Ideal) S4x2048x128 .bf16)) (p : Fin 4) (ho : off = ![p.val, 0, 0]) (R : Fin 2048) (e : Fin 128) :
    u.read (Elt Ideal) (u.writes (Elt Ideal) f (⟨Rect.unit (s := S4x2048x128) off S1x2048x128.size inb, w⟩ :: L)) (ix3 p R e)
      = w (ix3 ⟨0, by omega⟩ R e) := by
  subst ho
  refine View.read_writes_cons_hit_of_coords (s := S4x2048x128) u f (Rect.unit (s := S4x2048x128) ![p.val, 0, 0] S1x2048x128.size inb)
    w L (ix3 (⟨0, by omega⟩ : Fin 1) R e) _ fun a => ?_
  fin_cases a
  · show p.val = p.val + 1 * 0; omega
  · show R.val = 0 + 1 * R.val; omega
  · show e.val = 0 + 1 * e.val; omega

/-- A write of another plane leaves a plane as it was. -/
theorem plane_miss (u : View sig .tc .vmem S4x2048x128 .bf16) (f : u.ty.Contents (Elt Ideal)) (off : Fin 3 → ℕ)
    (inb : ∀ a, off a + S1x2048x128.size a ≤ S4x2048x128.size a) (w : FVec Ideal S1x2048x128 .bf16)
    (L : List (View.Piece (Elt Ideal) S4x2048x128 .bf16)) (p : Fin 4) (m : ℕ) (ho : off = ![m, 0, 0]) (hm : p.val ≠ m) (R : Fin 2048) (e : Fin 128) :
    u.read (Elt Ideal) (u.writes (Elt Ideal) f (⟨Rect.unit (s := S4x2048x128) off S1x2048x128.size inb, w⟩ :: L)) (ix3 p R e)
      = u.read (Elt Ideal) (u.writes (Elt Ideal) f L) (ix3 p R e) := by
  subst ho
  refine View.read_writes_cons_miss_of_axis (s := S4x2048x128) u f ⟨Rect.unit (s := S4x2048x128) ![m, 0, 0] S1x2048x128.size inb, w⟩ L _ (0 : Fin 3) m 1 rfl rfl rfl ?_
  show p.val < m ∨ m + 1 ≤ p.val
  omega

/-- What the regrouping left in plane `n`. -/
theorem plane_read (v : Memref sig .tc .vmem S512x2048 .bf16) (h : v.IsWhole) (u : Memref sig .tc .vmem S4x2048x128 .bf16) (x : Vec Ideal S512x2048 .bf16)
    (n m : ℕ) (hm : m ≤ 4) (hn : n < m) (R : Fin 2048) (e : Fin 128) :
    u.view.read (Elt Ideal) (u.view.writes (Elt Ideal) u.view.junk (queryPieces v h x m)) (ix3 ⟨n, by omega⟩ R e)
      = queryPlane v h x n (ix3 ⟨0, by omega⟩ R e) := by
  induction m with
  | zero => omega
  | succ m ih =>
    by_cases c : n = m
    · subst c
      exact plane_hit u.view _ _ _ (queryPlane v h x n) _ ⟨n, by omega⟩ (by rw [Nat.mod_eq_of_lt (by omega)]) R e
    · exact (plane_miss u.view _ _ _ _ _ ⟨n, by omega⟩ m (by rw [Nat.mod_eq_of_lt (by omega)]) c R e).trans (ih (by omega) (by omega))

/-- A plane's cast drops its axis of one element. -/
theorem plane_cast (w : Vec Ideal S1x2048x128 .bf16) (R : Fin 2048) (e : Fin 128) :
    shapeCast S2048x128 w shapeCasts_S1x2048x128_S2048x128 (ix2 R e) = w (ix3 ⟨0, by omega⟩ R e) := by
  pointwise

/-- The regrouped queries of slot `j`, at an element. -/
theorem queries_at (v : Memref sig .tc .vmem S512x2048 .bf16) (h : v.IsWhole) (u : Memref sig .tc .vmem S4x2048x128 .bf16) (x : Vec Ideal S512x2048 .bf16)
    (j : ℕ) (hj : j < 16) (r : Fin 512) (e : Fin 128) :
    queries u.view (regrouped v h u x) (j / 4 % 4) (ix2 ⟨512 * (j % 4) + r.val, by omega⟩ e) = x (ix2 r ⟨128 * j + e.val, by omega⟩) := by
  refine (plane_cast _ _ e).trans ?_
  rw [View.readAt_apply]
  have hi : ∀ I : S4x2048x128.Idx, I = ix3 ⟨j / 4 % 4, by omega⟩ ⟨512 * (j % 4) + r.val, by omega⟩ e →
      u.view.read (Elt Ideal) (regrouped v h u x) I = x (ix2 r ⟨128 * j + e.val, by omega⟩) := by
    rintro _ rfl
    refine (plane_read v h u x (j / 4 % 4) 4 (le_refl _) (by omega) _ e).trans ?_
    refine (stack_at _ _ _ _ (j % 4) (by omega) r e).trans ?_
    have hd : j = 4 * (j / 4 % 4) + j % 4 := by omega
    have hg : j % 4 < 4 := by omega
    have key : ∀ g, g < 4 → j = 4 * (j / 4 % 4) + g → (match g with
        | 0 => headCols v h x (4 * (j / 4 % 4)) | 1 => headCols v h x (4 * (j / 4 % 4) + 1)
        | 2 => headCols v h x (4 * (j / 4 % 4) + 2) | _ => headCols v h x (4 * (j / 4 % 4) + 3)) = headCols v h x j := by
      intro g hg hj
      interval_cases g <;> exact congrArg (headCols v h x) hj.symm
    rw [key _ hg hd]
    exact head_at v h x j hj r e
  apply hi
  funext p
  apply Fin.ext
  fin_cases p
  · show j / 4 % 4 % 4 + 1 * 0 = j / 4 % 4; omega
  · show 0 + 1 * (512 * (j % 4) + r.val) = 512 * (j % 4) + r.val; omega
  · show 0 + 1 * e.val = e.val; omega

/-- The first key of the last step, as the kernel computes it. -/
theorem lastBase : ∀ i : grid0.Coords, Scalar.muli (Scalar.subi (kernelRun0_A.sl.v21 i) 1#32) 512#32 = BitVec.ofNat 32 (512 * (i 1).val)
    ∧ kernelRun0_A.sl.v0 i = BitVec.ofNat 32 (512 * (i 1).val) := by decide +kernel

/-- The causal mask of the last step, at an element. -/
theorem lastMask_at (i : grid0.Coords) (r k : Fin 512) : lastMask i (ix2 r k) = BitVec.ofBool (decide (k.val ≤ r.val)) := by
  have hi : (i 1).val < 8 := (i 1).isLt
  have h : lastMask i (ix2 r k) = IntOp.cmpi .sle (Scalar.muli (Scalar.subi (kernelRun0_A.sl.v21 i) 1#32) 512#32 + BitVec.ofNat 32 k.val)
      (kernelRun0_A.sl.v0 i + BitVec.ofNat 32 r.val) := by
    unfold lastMask k0_pay305 kernelRun0_A.sl.v26 kernelRun0_A.sl.v27
    pointwise
    rfl
  rw [h, (lastBase i).1, (lastBase i).2, ← BitVec.ofNat_add, ← BitVec.ofNat_add, WordCmp.cmpi_sle_ofNat (by omega) (by omega)]
  congr 1
  rw [decide_eq_decide]
  omega

/-- One write of the whole array leaves its payload in a slot. -/
theorem held_whole (v : View sig .tc .vmem S4x2048x128 .f32) (w : FVec Ideal S4x2048x128 .f32) (j : ℕ) (y : S512x128.Idx) :
    held v [⟨Rect.unit (s := S4x2048x128) ![0, 0, 0] S4x2048x128.size inb_S4x2048x128_S4x2048x128_0_0_0, w⟩] j y = w (place j y) := by
  unfold held
  rw [slotOf_apply]
  have h := View.read_writes_full (Val := Elt Ideal) (off := ![0, 0, 0]) v v.junk inb_S4x2048x128_S4x2048x128_0_0_0 w []
  rw [h]

/-- The starting maxima are `⊥`. -/
theorem startMax_at (v : View sig .tc .vmem S4x2048x128 .f32) (j : ℕ) (y : S512x128.Idx) : held v startMax j y = (⊥ : EReal) := by
  refine (held_whole v _ j y).trans ?_
  rfl

/-- The starting sums are zero. -/
theorem startSum_at (v : View sig .tc .vmem S4x2048x128 .f32) (j : ℕ) (y : S512x128.Idx) : held v startSum j y = (0 : EReal) := by
  refine (held_whole v _ j y).trans ?_
  show Ideal.ofBits .f32 0#32 = 0
  simp [Ideal.ofBits, Ideal.ieee]

/-- The starting accumulators are zero. -/
theorem startAcc_at (v : View sig .tc .vmem S4x2048x128 .f32) (j : ℕ) (y : S512x128.Idx) : held v startAcc j y = (0 : EReal) := by
  refine (held_whole v _ j y).trans ?_
  show Ideal.ofBits .f32 0#32 = 0
  simp [Ideal.ofBits, Ideal.ieee]

end Cert.FoxIdeal.Flash

end
-- ==== Proof.FlashRow.lean ====
module

public import proofs.«01_k».proof.Proof.FlashState
public import proofs.«01_k».proof.Proof.FlashRead
public import proofs.«01_k».proof.Proof.FlashMath

@[expose] public section

set_option maxRecDepth 16384

/-!
# One query row of a grid point: the softmax-weighted mean of the values
-/

noncomputable section

open Idealize.ShloMosaic Idealize.ShloMosaic.TcCoe Idealize.SL.Sem
open Idealize.ShloMosaic.Pipeline (Dat)

namespace Cert.FoxIdeal.Flash

open Cert.FoxIdeal Cert.FoxIdeal.Gen

/-- Row `r` of a slot's three arrays after `N` keys: one maximum in every lane, and in every lane the sum and the
weighted sum of the values. -/
def Row (x : ℕ → EReal) (V : Fin 128 → ℕ → ℝ) (N : ℕ) (m l a : FVec Ideal S512x128 .f32) (r : Fin 512) : Prop :=
  ∃ M : EReal, ∀ d : Fin 128, m (ix2 r d) = M ∧ Run x (V d) N M (l (ix2 r d)) (a (ix2 r d))

/-- A step over a block of 512 keys. -/
theorem Row.step {x : ℕ → EReal} {V : Fin 128 → ℕ → ℝ} {N : ℕ} (s : ℕ → FVec Ideal S512x512 .f32) (m a : ℕ → FVec Ideal S512x128 .f32)
    (l : FVec Ideal S512x128 .f32) (vt : ℕ → FVec Ideal S512x128 .bf16) (j : ℕ) (hj : j < 16) (r : Fin 512)
    (h : Row x V N (m j) l (a j) r) (hx : ∀ k, x k ≠ ⊤) (hs : ∀ k : Fin 512, s j (ix2 r k) = x (N + k.val))
    (hv : ∀ (k : Fin 512) (d : Fin 128), vt (j / 4 % 4) (ix2 k d) = ((V d (N + k.val) : ℝ) : EReal)) (k0 : Fin 512) (hk : x (N + k0.val) ≠ ⊥) :
    Row x V (N + 512) (newMax (s j) (m j)) (newSum (s j) (m j) l) (newAcc s m a vt j) r := by
  obtain ⟨M, h⟩ := h
  obtain ⟨μ, hμ⟩ := (h 0).2.max_real hx 512 k0 hk
  have hM : ∀ d : Fin 128, newMax (s j) (m j) (ix2 r d) = max M (Finset.univ.fold max (⊥ : EReal) fun k : Fin 512 => x (N + k.val)) := by
    intro d
    rw [newMax_at, (h d).1]
    simp only [hs]
  have hw : ∀ k : Fin 512, weights (s j) (m j) (ix2 r k)
      = Ideal.exp2 (x (N + k.val) - max M (Finset.univ.fold max (⊥ : EReal) fun k : Fin 512 => x (N + k.val))) := by
    intro k
    rw [weights_at, hM, hs]
  refine ⟨_, fun d => ⟨hM d, ?_⟩⟩
  have hr := (h d).2.step hx 512 _ μ hμ
  rw [newSum_at, newAcc_at s m a vt j hj r d, hM d, (h d).1]
  simp only [hw, hv]
  exact hr

/-- The place of key `n` in an array of 4096. -/
abbrev keyIx (n : ℕ) : Fin 4096 := ⟨n % 4096, Nat.mod_lt _ (by norm_num)⟩

/-- The column of element `e` of head `j`. -/
abbrev headIx (j : Fin 16) (e : Fin 128) : Fin 2048 := ⟨128 * j.val + e.val, by omega⟩

/-- The column of element `e` of the key head that head `j` reads. -/
abbrev kvIx (j : Fin 16) (e : Fin 128) : Fin 512 := ⟨128 * (j.val / 4 % 4) + e.val, by omega⟩

/-- The logit, in base two, of query row `r` of the query block `I` against a key. -/
def logit (X0 : S512x2048.Idx → ℝ) (X1 : S4096x512.Idx → ℝ) (X3 : S1x16x4096.Idx → ℝ) (I : ℕ) (j : Fin 16) (r : Fin 512) (n : ℕ) : ℝ :=
  (∑ e : Fin 128, X0 (ix2 r (headIx j e)) * X1 (ix2 (keyIx n) (kvIx j e)))
    + (X3 (ix3 (⟨0, by omega⟩ : Fin 1) j (keyIx (512 * I))) - X3 (ix3 (⟨0, by omega⟩ : Fin 1) j (keyIx n))) * (Real.log 2)⁻¹

/-- The score: the logit of a key up to the query, `⊥` beyond. -/
def score (X0 : S512x2048.Idx → ℝ) (X1 : S4096x512.Idx → ℝ) (X3 : S1x16x4096.Idx → ℝ) (I : ℕ) (j : Fin 16) (r : Fin 512) (n : ℕ) : EReal :=
  if n ≤ 512 * I + r.val then ((logit X0 X1 X3 I j r n : ℝ) : EReal) else ⊥

/-- The value of a key in column `d` of head `j`. -/
def valueOf (X2 : S4096x512.Idx → ℝ) (j : Fin 16) (d : Fin 128) (n : ℕ) : ℝ := X2 (ix2 (keyIx n) (kvIx j d))

/-- A score is not `⊤`. -/
theorem score_ne_top (X0 : S512x2048.Idx → ℝ) (X1 : S4096x512.Idx → ℝ) (X3 : S1x16x4096.Idx → ℝ) (I : ℕ) (j : Fin 16) (r : Fin 512) (n : ℕ) :
    score X0 X1 X3 I j r n ≠ ⊤ := by
  unfold score
  split_ifs
  · exact EReal.coe_ne_top _
  · exact bot_ne_top

/-- A score of finite inputs is the logit. -/
theorem logit_coe (A B : Fin 128 → ℝ) (p s c : ℝ) :
    (∑ e : Fin 128, ((A e : ℝ) : EReal) * ((B e : ℝ) : EReal)) + (((p : ℝ) : EReal) - ((s : ℝ) : EReal)) * ((c : ℝ) : EReal)
      = (((∑ e : Fin 128, A e * B e) + (p - s) * c : ℝ) : EReal) := by
  simp only [← EReal.coe_mul, coe_sum, ← EReal.coe_sub, ← EReal.coe_add]

/-- The mask of the last step: the score up to the query, `⊥` beyond. -/
theorem select_masked (p : IVec S512x512 1) (s : FVec Ideal S512x512 .f32) (r k : Fin 512) (a : ℝ)
    (hp : p (ix2 r k) = BitVec.ofBool (decide (k.val ≤ r.val))) (hs : s (ix2 r k) = ((a : ℝ) : EReal)) :
    select p s (broadcast S512x512 (Named.named κ "mask" 0xF149F2CA#32 : Ideal .f32)) (ix2 r k) = if k.val ≤ r.val then ((a : ℝ) : EReal) else ⊥ := by
  show Scalar.select (p (ix2 r k)) (s (ix2 r k)) (Named.named κ "mask" 0xF149F2CA#32 : Ideal .f32) = _
  rw [hp, hs, mask_bot]
  by_cases h : k.val ≤ r.val
  · rw [if_pos h, decide_eq_true h]; rfl
  · rw [if_neg h, decide_eq_false h]; rfl

section Run

variable (c : Dev nD) (i : grid0.Coords)
    (arg2 : Memref sig .tc .vmem S512x2048 .bf16) (harg2 : arg2.IsWhole) (arg3 : Memref sig .tc .vmem S4096x512 .bf16) (harg3 : arg3.IsWhole)
    (arg4 : Memref sig .tc .vmem S4096x512 .bf16) (harg4 : arg4.IsWhole) (arg5 : Memref sig .tc .vmem S1x16x4096 .f32) (harg5 : arg5.IsWhole)
    (arg6 : Memref sig .tc .vmem S512x2048 .bf16) (harg6 : arg6.IsWhole) (arg7 : Memref sig .tc .vmem S4x2048x128 .bf16) (harg7 : arg7.IsWhole)
    (arg8 : Memref sig .tc .vmem S4x2048x128 .f32) (harg8 : arg8.IsWhole) (arg9 : Memref sig .tc .vmem S4x2048x128 .f32) (harg9 : arg9.IsWhole)
    (arg10 : Memref sig .tc .vmem S4x2048x128 .f32) (harg10 : arg10.IsWhole)
    (x0 : Vec Ideal S512x2048 .bf16) (x1 : Vec Ideal S4096x512 .bf16) (x2 : Vec Ideal S4096x512 .bf16) (x3 : Vec Ideal S1x16x4096 .f32)
    (X0 : S512x2048.Idx → ℝ) (X1 : S4096x512.Idx → ℝ) (X2 : S4096x512.Idx → ℝ) (X3 : S1x16x4096.Idx → ℝ)

/-- A score of slot `j` against a block of keys that starts at key `N`, from what the block reads. -/
theorem scores_logit (h0 : ∀ y, x0 y = ((X0 y : ℝ) : EReal)) (h1 : ∀ y, x1 y = ((X1 y : ℝ) : EReal)) (h3 : ∀ y, x3 y = ((X3 y : ℝ) : EReal))
    (hi : 512 * (i 1).val < 4096) (N : ℕ) (hN : N + 512 ≤ 4096) (kt : ℕ → FVec Ideal S512x128 .bf16) (b : FVec Ideal S16x512 .f32)
    (w : Vec Ideal S1x16x512 .f32) (j : Fin 16) (r k : Fin 512)
    (hkt : ∀ e : Fin 128, kt (j.val / 4 % 4) (ix2 k e) = x1 (ix2 ⟨N + k.val, by omega⟩ ⟨128 * (j.val / 4 % 4) + e.val, by omega⟩))
    (hb : b (ix2 j k) = (firstCum i arg5 harg5 x3 (ix2 j ⟨0, by omega⟩) - w (ix3 ⟨0, by omega⟩ j k)) * (((Real.log 2)⁻¹ : ℝ) : EReal))
    (hw : w (ix3 ⟨0, by omega⟩ j k) = x3 (ix3 ⟨0, by omega⟩ j ⟨N + k.val, by omega⟩)) :
    scores (queries arg7.view (regrouped arg2 harg2 arg7 x0)) kt b j.val (ix2 r k) = ((logit X0 X1 X3 (i 1).val j r (N + k.val) : ℝ) : EReal) := by
  have hk : keyIx (N + k.val) = ⟨N + k.val, by omega⟩ := Fin.ext (Nat.mod_eq_of_lt (by omega))
  have hq : keyIx (512 * (i 1).val) = ⟨512 * (i 1).val, hi⟩ := Fin.ext (Nat.mod_eq_of_lt hi)
  have hj : (⟨j.val % 16, by omega⟩ : Fin 16) = j := Fin.ext (Nat.mod_eq_of_lt j.isLt)
  rw [scores_at _ _ _ j.val j.isLt r k, hj, hb, hw, firstCum_at i arg5 harg5 x3 j hi, h3, h3]
  unfold logit
  rw [hk, hq, ← logit_coe]
  refine congrArg (· + _) (Finset.sum_congr rfl fun e _ => ?_)
  rw [hkt e, queries_at arg2 harg2 arg7 x0 j.val j.isLt r e, h0, h1]

/-- The scores of a trip of the main loop. -/
theorem tripScores_at (h0 : ∀ y, x0 y = ((X0 y : ℝ) : EReal)) (h1 : ∀ y, x1 y = ((X1 y : ℝ) : EReal)) (h3 : ∀ y, x3 y = ((X3 y : ℝ) : EReal))
    (t : Fin (k0_t1_loop i).trips) (j : Fin 16) (r k : Fin 512) :
    tripScores i arg2 harg2 arg3 harg3 arg5 harg5 arg7 x0 x1 x3 t j.val (ix2 r k) = score X0 X1 X3 (i 1).val j r (512 * t.val + k.val) := by
  have hi : (i 1).val < 8 := (i 1).isLt
  have ht : t.val < (i 1).val := lt_of_lt_of_eq t.isLt (trips_eq i)
  unfold score
  rw [if_pos (by omega)]
  exact scores_logit i arg2 harg2 arg5 harg5 arg7 x0 x1 x3 X0 X1 X3 h0 h1 h3 (by omega) (512 * t.val) (by omega) _ _ _ j r k
    (fun e => tripTile_at arg3 harg3 x1 i t (by omega) _ (by omega) k e) (pay2_at _ _ j k)
    (cum_at arg5 harg5 x3 _ _ _ (k0_off2_eq i t) j k (by omega))

/-- The scores of the masked last step. -/
theorem lastScores_at (h0 : ∀ y, x0 y = ((X0 y : ℝ) : EReal)) (h1 : ∀ y, x1 y = ((X1 y : ℝ) : EReal)) (h3 : ∀ y, x3 y = ((X3 y : ℝ) : EReal))
    (j : Fin 16) (r k : Fin 512) :
    lastScores i arg2 harg2 arg3 harg3 arg5 harg5 arg7 x0 x1 x3 j.val (ix2 r k) = score X0 X1 X3 (i 1).val j r (512 * (i 1).val + k.val) := by
  have hi : (i 1).val < 8 := (i 1).isLt
  unfold score
  refine (select_masked (lastMask i) _ r k _ (lastMask_at i r k)
    (scores_logit i arg2 harg2 arg5 harg5 arg7 x0 x1 x3 X0 X1 X3 h0 h1 h3 (by omega) (512 * (i 1).val) (by omega) _ _ _ j r k
      (fun e => lastTile_at arg3 harg3 x1 i (by omega) _ (by omega) k e) (pay304_at _ _ j k)
      (cum_at arg5 harg5 x3 _ _ _ (k0_off12_eq i) j k (by omega)))).trans ?_
  by_cases h : k.val ≤ r.val
  · rw [if_pos h, if_pos (by omega)]
  · rw [if_neg h, if_neg (by omega)]

/-- The main loop: row `r` of slot `j` before trip `t`. -/
theorem main_row (h0 : ∀ y, x0 y = ((X0 y : ℝ) : EReal)) (h1 : ∀ y, x1 y = ((X1 y : ℝ) : EReal)) (h2 : ∀ y, x2 y = ((X2 y : ℝ) : EReal))
    (h3 : ∀ y, x3 y = ((X3 y : ℝ) : EReal)) (j : Fin 16) (r : Fin 512) (t : ℕ) (ht : t ≤ (i 1).val) :
    Row (score X0 X1 X3 (i 1).val j r) (valueOf X2 j) (512 * t)
      (maxAt c i arg2 harg2 arg3 harg3 arg4 harg4 arg5 harg5 arg6 harg6 arg7 harg7 arg8 harg8 arg9 harg9 arg10 harg10 x0 x1 x2 x3 t j.val)
      (sumAt c i arg2 harg2 arg3 harg3 arg4 harg4 arg5 harg5 arg6 harg6 arg7 harg7 arg8 harg8 arg9 harg9 arg10 harg10 x0 x1 x2 x3 t j.val)
      (accAt c i arg2 harg2 arg3 harg3 arg4 harg4 arg5 harg5 arg6 harg6 arg7 harg7 arg8 harg8 arg9 harg9 arg10 harg10 x0 x1 x2 x3 t j.val) r := by
  induction t with
  | zero =>
    refine ⟨⊥, fun d => ⟨startMax_at arg8.view j.val _, ?_⟩⟩
    have hl := startSum_at arg9.view j.val (ix2 r d)
    have ha := startAcc_at arg10.view j.val (ix2 r d)
    have hr := Run.zero (score X0 X1 X3 (i 1).val j r) (valueOf X2 j d)
    exact (congrArg₂ (fun L A => Run (score X0 X1 X3 (i 1).val j r) (valueOf X2 j d) 0 ⊥ L A) hl ha).mpr hr
  | succ t ih =>
    have hi : (i 1).val < 8 := (i 1).isLt
    have hlt : t < (k0_t1_loop i).trips := lt_of_lt_of_eq (by omega) (trips_eq i).symm
    obtain ⟨e1, e2, e3⟩ := trip_step c i arg2 harg2 arg3 harg3 arg4 harg4 arg5 harg5 arg6 harg6 arg7 harg7 arg8 harg8 arg9 harg9 arg10 harg10 x0 x1 x2 x3 ⟨t, hlt⟩ j.val j.isLt
    have hN : 512 * (t + 1) = 512 * t + 512 := by omega
    rw [hN, e1, e2, e3]
    refine Row.step _ _ _ _ _ j.val j.isLt r (ih (by omega)) (fun n => score_ne_top X0 X1 X3 _ j r n)
      (fun k => tripScores_at i arg2 harg2 arg3 harg3 arg5 harg5 arg7 x0 x1 x3 X0 X1 X3 h0 h1 h3 ⟨t, hlt⟩ j r k)
      (fun k d => ?_) ⟨0, by omega⟩ ?_
    · have hk : keyIx (512 * t + k.val) = ⟨512 * t + k.val, by omega⟩ := Fin.ext (Nat.mod_eq_of_lt (by omega))
      unfold valueOf
      rw [hk, ← h2]
      exact tripTile_at arg4 harg4 x2 i ⟨t, hlt⟩ (by show 512 * t + 512 ≤ 4096; omega) _ (by omega) k d
    · unfold score
      rw [if_pos (by show 512 * t + 0 ≤ _; omega)]
      exact EReal.coe_ne_bot _

/-- What a grid point leaves for a query: the softmax-weighted mean of the values of the keys up to it. -/
theorem row_value (h0 : ∀ y, x0 y = ((X0 y : ℝ) : EReal)) (h1 : ∀ y, x1 y = ((X1 y : ℝ) : EReal)) (h2 : ∀ y, x2 y = ((X2 y : ℝ) : EReal))
    (h3 : ∀ y, x3 y = ((X3 y : ℝ) : EReal)) (j : Fin 16) (r : Fin 512) (d : Fin 128) :
    Ideal.div
      (held arg10.view (ranAcc c i arg2 harg2 arg3 harg3 arg4 harg4 arg5 harg5 arg6 harg6 arg7 harg7 arg8 harg8 arg9 harg9 arg10 harg10 x0 x1 x2 x3 16) j.val (ix2 r d))
      (held arg9.view (ranSum c i arg2 harg2 arg3 harg3 arg4 harg4 arg5 harg5 arg6 harg6 arg7 harg7 arg8 harg8 arg9 harg9 arg10 harg10 x0 x1 x2 x3 16) j.val (ix2 r d))
      = ((softmaxOf (logit X0 X1 X3 (i 1).val j r) (valueOf X2 j d) (512 * (i 1).val + r.val) : ℝ) : EReal) := by
  have hi : (i 1).val < 8 := (i 1).isLt
  obtain ⟨e2, e3⟩ := last_step c i arg2 harg2 arg3 harg3 arg4 harg4 arg5 harg5 arg6 harg6 arg7 harg7 arg8 harg8 arg9 harg9 arg10 harg10 x0 x1 x2 x3 j.val j.isLt
  have hrow := Row.step _ _ _ _ (lastTile arg4.view (harg4.unread x2) i) j.val j.isLt r
    (main_row c i arg2 harg2 arg3 harg3 arg4 harg4 arg5 harg5 arg6 harg6 arg7 harg7 arg8 harg8 arg9 harg9 arg10 harg10 x0 x1 x2 x3 X0 X1 X2 X3 h0 h1 h2 h3 j r (i 1).val (le_refl _))
    (fun n => score_ne_top X0 X1 X3 _ j r n)
    (fun k => lastScores_at i arg2 harg2 arg3 harg3 arg5 harg5 arg7 x0 x1 x3 X0 X1 X3 h0 h1 h3 j r k)
    (fun k d => by
      have hk : keyIx (512 * (i 1).val + k.val) = ⟨512 * (i 1).val + k.val, by omega⟩ := Fin.ext (Nat.mod_eq_of_lt (by omega))
      unfold valueOf
      rw [hk, ← h2]
      exact lastTile_at arg4 harg4 x2 i (by omega) _ (by omega) k d) ⟨0, by omega⟩ (by
      unfold score
      rw [if_pos (by show 512 * (i 1).val + 0 ≤ _; omega)]
      exact EReal.coe_ne_bot _)
  obtain ⟨M, hrun⟩ := hrow
  rw [e2, e3]
  refine (hrun d).2.quotient (by omega) (fun n hn => ?_) (fun n hn => ?_)
  · unfold score; rw [if_pos hn]
  · unfold score; rw [if_neg (by omega)]

end Run

end Cert.FoxIdeal.Flash

end
-- ==== Proof.FlashOut.lean ====
module

public import proofs.«01_k».proof.Proof.FlashRow

@[expose] public section

set_option maxRecDepth 16384

/-!
# What a grid point writes
-/

noncomputable section

open Idealize.ShloMosaic Idealize.ShloMosaic.TcCoe Idealize.SL.Sem
open Idealize.ShloMosaic.Pipeline (Dat)

namespace Cert.FoxIdeal.Flash

open Cert.FoxIdeal Cert.FoxIdeal.Gen

/-- A write of a head's columns is read back there. -/
theorem cols_hit (u : View sig .tc .vmem S512x2048 .bf16) (f : u.ty.Contents (Elt Ideal)) (off : Fin 2 → ℕ)
    (inb : ∀ a, off a + S512x128.size a ≤ S512x2048.size a) (w : FVec Ideal S512x128 .bf16)
    (L : List (View.Piece (Elt Ideal) S512x2048 .bf16)) (j : Fin 16) (ho : off = ![0, 128 * j.val]) (r : Fin 512) (d : Fin 128) :
    u.read (Elt Ideal) (u.writes (Elt Ideal) f (⟨Rect.unit (s := S512x2048) off S512x128.size inb, w⟩ :: L)) (ix2 r (headIx j d))
      = w (ix2 r d) := by
  subst ho
  refine View.read_writes_cons_hit_of_coords (s := S512x2048) u f (Rect.unit (s := S512x2048) ![0, 128 * j.val] S512x128.size inb)
    w L (ix2 r d) _ fun a => ?_
  fin_cases a
  · show r.val = 0 + 1 * r.val; omega
  · show 128 * j.val + d.val = 128 * j.val + 1 * d.val; omega

/-- A write of another head's columns leaves a head's columns as they were. -/
theorem cols_miss (u : View sig .tc .vmem S512x2048 .bf16) (f : u.ty.Contents (Elt Ideal)) (off : Fin 2 → ℕ)
    (inb : ∀ a, off a + S512x128.size a ≤ S512x2048.size a) (w : FVec Ideal S512x128 .bf16)
    (L : List (View.Piece (Elt Ideal) S512x2048 .bf16)) (j : Fin 16) (m : ℕ) (ho : off = ![0, 128 * m]) (hm : j.val ≠ m) (r : Fin 512) (d : Fin 128) :
    u.read (Elt Ideal) (u.writes (Elt Ideal) f (⟨Rect.unit (s := S512x2048) off S512x128.size inb, w⟩ :: L)) (ix2 r (headIx j d))
      = u.read (Elt Ideal) (u.writes (Elt Ideal) f L) (ix2 r (headIx j d)) := by
  subst ho
  refine View.read_writes_cons_miss_of_axis (s := S512x2048) u f ⟨Rect.unit (s := S512x2048) ![0, 128 * m] S512x128.size inb, w⟩ L _ (1 : Fin 2) (128 * m) 128 rfl rfl rfl ?_
  show 128 * j.val + d.val < 128 * m ∨ 128 * m + 128 ≤ 128 * j.val + d.val
  omega

/-- The output after its writes, at an element of a head. -/
theorem cols_read (u : View sig .tc .vmem S512x2048 .bf16) (f : u.ty.Contents (Elt Ideal)) (a l : ℕ → FVec Ideal S512x128 .f32)
    (j : Fin 16) (m : ℕ) (hm : m ≤ 16) (hj : j.val < m) (r : Fin 512) (d : Fin 128) :
    u.read (Elt Ideal) (u.writes (Elt Ideal) f (outPieces a l m)) (ix2 r (headIx j d)) = Ideal.div (a j.val (ix2 r d)) (l j.val (ix2 r d)) := by
  induction m with
  | zero => omega
  | succ m ih =>
    by_cases c : j.val = m
    · subst c
      exact cols_hit u f _ _ (truncf .bf16 (divf (a j.val) (l j.val)) bitsLt_bf16_f32) _ j (by rw [Nat.mod_eq_of_lt (by omega)]) r d
    · exact (cols_miss u f _ _ _ _ j m (by rw [Nat.mod_eq_of_lt (by omega)]) c r d).trans (ih (by omega) (by omega))

/-- What a grid point leaves in its block: for each query and head, the softmax-weighted mean of the values. -/
theorem out_value (c : Dev nD) (i : grid0.Coords)
    (arg2 : Memref sig .tc .vmem S512x2048 .bf16) (harg2 : arg2.IsWhole) (arg3 : Memref sig .tc .vmem S4096x512 .bf16) (harg3 : arg3.IsWhole)
    (arg4 : Memref sig .tc .vmem S4096x512 .bf16) (harg4 : arg4.IsWhole) (arg5 : Memref sig .tc .vmem S1x16x4096 .f32) (harg5 : arg5.IsWhole)
    (arg6 : Memref sig .tc .vmem S512x2048 .bf16) (harg6 : arg6.IsWhole) (arg7 : Memref sig .tc .vmem S4x2048x128 .bf16) (harg7 : arg7.IsWhole)
    (arg8 : Memref sig .tc .vmem S4x2048x128 .f32) (harg8 : arg8.IsWhole) (arg9 : Memref sig .tc .vmem S4x2048x128 .f32) (harg9 : arg9.IsWhole)
    (arg10 : Memref sig .tc .vmem S4x2048x128 .f32) (harg10 : arg10.IsWhole)
    (x0 : Vec Ideal S512x2048 .bf16) (x1 : Vec Ideal S4096x512 .bf16) (x2 : Vec Ideal S4096x512 .bf16) (x3 : Vec Ideal S1x16x4096 .f32)
    (X0 : S512x2048.Idx → ℝ) (X1 : S4096x512.Idx → ℝ) (X2 : S4096x512.Idx → ℝ) (X3 : S1x16x4096.Idx → ℝ)
    (h0 : ∀ y, x0 y = ((X0 y : ℝ) : EReal)) (h1 : ∀ y, x1 y = ((X1 y : ℝ) : EReal)) (h2 : ∀ y, x2 y = ((X2 y : ℝ) : EReal))
    (h3 : ∀ y, x3 y = ((X3 y : ℝ) : EReal)) (j : Fin 16) (r : Fin 512) (d : Fin 128) :
    out0_A_4 c i arg2 harg2 arg3 harg3 arg4 harg4 arg5 harg5 arg6 harg6 arg7 harg7 arg8 harg8 arg9 harg9 arg10 harg10 x0 x1 x2 x3 (ix2 r (headIx j d))
      = ((softmaxOf (logit X0 X1 X3 (i 1).val j r) (valueOf X2 j d) (512 * (i 1).val + r.val) : ℝ) : EReal) := by
  unfold out0_A_4
  rw [ran_pieces]
  exact (cols_read VO0_4 VO0_4.junk _ _ j 16 (le_refl _) j.isLt r d).trans
    (row_value c i arg2 harg2 arg3 harg3 arg4 harg4 arg5 harg5 arg6 harg6 arg7 harg7 arg8 harg8 arg9 harg9 arg10 harg10 x0 x1 x2 x3 X0 X1 X2 X3 h0 h1 h2 h3 j r d)

end Cert.FoxIdeal.Flash

end
-- ==== Proof.FoxRefRow.lean ====
module

public import proofs.«01_k».proof.Proof.FoxRefValue
public import proofs.«01_k».proof.Proof.FlashOut

@[expose] public section

set_option maxRecDepth 16384

/-!
# The reference of the attention at finite inputs: the softmax-weighted mean of the values
-/

noncomputable section

open Idealize.ShloMosaic Idealize.ShloMosaic.TcCoe Idealize.SL.Sem
open Idealize.ShloMosaic.Pipeline (Dat)

namespace Cert.FoxRefIdeal.Attn

open Cert.FoxRefIdeal Cert.FoxRefIdeal.Gen
open Cert.FoxIdeal.Flash (logit valueOf softmaxOf keyIx headIx kvIx coe_sum fold_max_real reference_row)

/-- The scale of the queries. -/
def scale : ℝ := 1 / (Real.sqrt 128 * Real.log 2)

/-- The root is not zero. -/
theorem root_pos : Real.sqrt 128 ≠ 0 := (Real.sqrt_pos.mpr (by norm_num)).ne'

/-- The logarithm is not zero. -/
theorem log_pos : Real.log 2 ≠ 0 := (Real.log_pos (by norm_num)).ne'

/-- The scale, as the program computes it. -/
theorem scale_real : Ideal.div (Ideal.ofBits .f32 0x3F800000#32) (Ideal.sqrt (Ideal.ofBits .f32 0x43000000#32) * Ideal.log (Ideal.ofBits .f32 0x40000000#32))
    = ((scale : ℝ) : EReal) := by
  have e1 : Ideal.ofBits .f32 0x3F800000#32 = ((1 : ℝ) : EReal) := by
    simp [Ideal.ofBits, Ideal.ieee]
    rw [← EReal.coe_mul]
    norm_num
  have e2 : Ideal.ofBits .f32 0x40000000#32 = ((2 : ℝ) : EReal) := by
    simp [Ideal.ofBits, Ideal.ieee]
    rw [← EReal.coe_mul]
    norm_num
  have h2 : Ideal.log ((2 : ℝ) : EReal) = ((Real.log 2 : ℝ) : EReal) := by
    show (if (2 : ℝ) ≤ 0 then (⊥ : EReal) else ((Real.log 2 : ℝ) : EReal)) = _
    rw [if_neg (by norm_num)]
  rw [e1, e2, h2, root_real, ← EReal.coe_mul, Cert.FoxIdeal.Flash.div_real _ _ (mul_ne_zero root_pos log_pos)]
  rfl

/-- The queries, head by head. -/
theorem q_at (q : FVec Ideal S8192x2048 .f32) (b : Fin 2) (t : Fin 4096) (n g : Fin 4) (e : Fin 128) :
    shapeCast S2x4096x4x4x128 q shapeCasts_S8192x2048_S2x4096x4x4x128 (ix5 b t n g e)
      = q (ix2 ⟨4096 * b.val + t.val, by omega⟩ ⟨512 * n.val + 128 * g.val + e.val, by omega⟩) := by
  pointwise
  refine congrArg₂ (fun x y => q (ix2 x y)) (Fin.ext ?_) (Fin.ext ?_) <;> dsimp only <;> omega

/-- The keys (or values), head by head. -/
theorem k_at (k : FVec Ideal S8192x512 .f32) (b : Fin 2) (s : Fin 4096) (n : Fin 4) (e : Fin 128) :
    shapeCast S2x4096x4x128 k shapeCasts_S8192x512_S2x4096x4x128 (ix4 b s n e)
      = k (ix2 ⟨4096 * b.val + s.val, by omega⟩ ⟨128 * n.val + e.val, by omega⟩) := by
  pointwise
  refine congrArg₂ (fun x y => k (ix2 x y)) (Fin.ext ?_) (Fin.ext ?_) <;> dsimp only <;> omega

/-- The cumulated gates, head by head. -/
theorem c_at (cum : FVec Ideal S2x16x4096 .f32) (b : Fin 2) (n g : Fin 4) (t : Fin 4096) :
    shapeCast S2x4x4x4096 cum shapeCasts_S2x16x4096_S2x4x4x4096 (ix4 b n g t)
      = cum (ix3 b ⟨4 * n.val + g.val, by omega⟩ t) := by
  pointwise
  refine congrArg (fun x => cum (ix3 b x t)) (Fin.ext ?_)
  dsimp only
  omega

/-- A row of the softmax: when a query's logits are the scores times `log 2` and shifted, its output is the
weighted mean of the values. -/
theorem row_of (V : FVec Ideal S2x4096x4x128 .f32) (L : FVec Ideal S2x4x4x4096x4096 .f32) (b : Fin 2) (t : Fin 4096) (n g : Fin 4) (d : Fin 128)
    (a v : ℕ → ℝ) (t0 : ℝ) (hL : ∀ s : Fin 4096, L (ix5 b n g t s) = if s.val ≤ t.val then ((a s.val * Real.log 2 + t0 : ℝ) : EReal) else ⊥)
    (hV : ∀ s : Fin 4096, V (ix4 b s n d) = ((v s.val : ℝ) : EReal)) :
    OUT V (SHARE (Host.exp (subf L (MAX L)))) (ix2 ⟨4096 * b.val + t.val, by omega⟩ ⟨512 * n.val + 128 * g.val + d.val, by omega⟩)
      = ((softmaxOf a v t.val : ℝ) : EReal) := by
  obtain ⟨μ, hμ⟩ := fold_max_real (fun s : Fin 4096 => L (ix5 b n g t s)) (fun s => by
      rw [hL]; split_ifs
      · exact EReal.coe_ne_top _
      · exact bot_ne_top) ⊥ bot_ne_top t (by
      rw [hL, if_pos (le_refl _)]; exact EReal.coe_ne_bot _)
  have he : ∀ s : Fin 4096, Host.exp (subf L (MAX L)) (ix5 b n g t s)
      = Ideal.exp ((if s.val ≤ t.val then ((a s.val * Real.log 2 + t0 : ℝ) : EReal) else ⊥) - ((μ : ℝ) : EReal)) := by
    intro s
    show Ideal.exp (L (ix5 b n g t s) - MAX L (ix5 b n g t s)) = _
    rw [max_at, hμ, hL]
  rw [out_at]
  simp only [share_at, he, hV]
  exact reference_row (N := 4096) (y := fun j => if j ≤ t.val then ((a j * Real.log 2 + t0 : ℝ) : EReal) else ⊥) t.isLt
    (fun j hj => if_pos hj) (fun j hj => if_neg (by omega)) μ

/-- A logit of finite inputs: the product over the root, with the bias, is `log 2` times the product with the scaled
query, with the bias against any number, and a shift. -/
theorem real_logit (A B : Fin 128 → ℝ) (p f s : ℝ) :
    Ideal.div (∑ e : Fin 128, ((B e : ℝ) : EReal) * ((A e : ℝ) : EReal)) ((Real.sqrt 128 : ℝ) : EReal) + (((p : ℝ) : EReal) - ((s : ℝ) : EReal))
      = ((((∑ e : Fin 128, A e * scale * B e) + (f - s) * (Real.log 2)⁻¹) * Real.log 2 + (p - f) : ℝ) : EReal) := by
  simp only [← EReal.coe_mul, coe_sum]
  rw [Cert.FoxIdeal.Flash.div_real _ _ root_pos, ← EReal.coe_sub, ← EReal.coe_add]
  congr 1
  have h2 := log_pos
  have h1 := root_pos
  have hs : ∑ e : Fin 128, A e * scale * B e = (∑ e : Fin 128, B e * A e) * scale := by
    rw [Finset.sum_mul]
    exact Finset.sum_congr rfl fun e _ => by ring
  have hc : scale * Real.log 2 = (Real.sqrt 128)⁻¹ := by
    unfold scale
    rw [one_div, mul_inv, mul_assoc, inv_mul_cancel₀ h2, mul_one]
  rw [hs, add_mul, mul_assoc (f - s), inv_mul_cancel₀ h2, mul_assoc _ scale, hc, div_eq_mul_inv]
  ring

/-- The reference's output at a query of block `I`, over finite inputs, from the block's own numbers. -/
theorem ref_value (q : FVec Ideal S8192x2048 .f32) (k v : FVec Ideal S8192x512 .f32) (cum : FVec Ideal S2x16x4096 .f32)
    (Q : S8192x2048.Idx → ℝ) (K V : S8192x512.Idx → ℝ) (C : S2x16x4096.Idx → ℝ)
    (hq : ∀ y, q y = ((Q y : ℝ) : EReal)) (hk : ∀ y, k y = ((K y : ℝ) : EReal)) (hv : ∀ y, v y = ((V y : ℝ) : EReal)) (hc : ∀ y, cum y = ((C y : ℝ) : EReal))
    (X0 : Cert.FoxIdeal.S512x2048.Idx → ℝ) (X1 X2 : Cert.FoxIdeal.S4096x512.Idx → ℝ) (X3 : Cert.FoxIdeal.S1x16x4096.Idx → ℝ)
    (b : Fin 2) (I : ℕ) (hI : I < 8)
    (e0 : ∀ (r : Fin 512) (x : Fin 2048), X0 (ix2 r x) = Q (ix2 ⟨4096 * b.val + (512 * I + r.val), by omega⟩ x) * scale)
    (e1 : ∀ (s : Fin 4096) (x : Fin 512), X1 (ix2 s x) = K (ix2 ⟨4096 * b.val + s.val, by omega⟩ x))
    (e2 : ∀ (s : Fin 4096) (x : Fin 512), X2 (ix2 s x) = V (ix2 ⟨4096 * b.val + s.val, by omega⟩ x))
    (e3 : ∀ (j : Fin 16) (s : Fin 4096), X3 (ix3 ⟨0, by omega⟩ j s) = C (ix3 b j s))
    (j : Fin 16) (r : Fin 512) (d : Fin 128) :
    REF q k v cum (ix2 ⟨4096 * b.val + (512 * I + r.val), by omega⟩ (headIx j d))
      = ((softmaxOf (logit X0 X1 X3 I j r) (valueOf X2 j d) (512 * I + r.val) : ℝ) : EReal) := by
  have hcol (e : Fin 128) : headIx j e = ⟨512 * (j.val / 4) + 128 * (j.val % 4) + e.val, by omega⟩ := Fin.ext (by show 128 * j.val + e.val = 512 * (j.val / 4) + 128 * (j.val % 4) + e.val; omega)
  have hkv (e : Fin 128) : kvIx j e = ⟨128 * (j.val / 4) + e.val, by omega⟩ := Fin.ext (by show 128 * (j.val / 4 % 4) + e.val = 128 * (j.val / 4) + e.val; omega)
  have hkey (s : Fin 4096) : keyIx s.val = s := Fin.ext (Nat.mod_eq_of_lt s.isLt)
  have hj : (⟨4 * (j.val / 4) + j.val % 4, by omega⟩ : Fin 16) = j := Fin.ext (by show 4 * (j.val / 4) + j.val % 4 = j.val; omega)
  rw [hcol d]
  refine row_of _ _ b ⟨512 * I + r.val, by omega⟩ ⟨j.val / 4, by omega⟩ ⟨j.val % 4, by omega⟩ d
    (logit X0 X1 X3 I j r) (valueOf X2 j d)
    (C (ix3 b j ⟨512 * I + r.val, by omega⟩) - C (ix3 b j (keyIx (512 * I)))) (fun s => ?_) (fun s => ?_)
  · rw [logits_at]
    refine if_congr Iff.rfl ?_ rfl
    simp only [q_at, k_at, c_at, hq, hk, hc, hj]
    rw [real_logit _ _ _ (C (ix3 b j (keyIx (512 * I))))]
    unfold logit
    simp only [e0, e1, e3, hkey, hcol, hkv]
  · rw [k_at, hv]
    unfold valueOf
    rw [hkey, e2, hkv]

end Cert.FoxRefIdeal.Attn

end
-- ==== Proof.FoxFinal.lean ====
module

public import proofs.«01_k».proof.Proof.FoxRefRow
public import proofs.«01_k».proof.Proof.Gen.FoxIdeal.Value
public import proofs.«01_k».proof.Defs
public import Idealize.ShloMosaic.Lib.ReduceAll

@[expose] public section

set_option maxRecDepth 16384

/-!
# The attention kernel's result array is the reference's
-/

noncomputable section

open Idealize.ShloMosaic Idealize.ShloMosaic.TcCoe Idealize.SL.Sem
open Idealize.ShloMosaic.Pipeline (Dat)

namespace Cert.FoxIdeal.Flash

open Cert.FoxIdeal Cert.FoxIdeal.Gen
open Cert.FoxRefIdeal.Attn (scale)

variable (m : (ℓ : Loc nD τ sig) → Buf (Elt Ideal) ℓ)

/-- The block index of every window, and the grid's coordinates, at every grid point. -/
theorem idx : ∀ t : Fin cfg0.N, win0_0.index t = ![t.val, 0] ∧ win0_1.index t = ![t.val / 8, 0]
    ∧ win0_2.index t = ![t.val / 8, 0] ∧ win0_3.index t = ![t.val / 8, 0, 0]
    ∧ win0_4.index t = ![t.val, 0] :=
  (by decide +kernel : ∀ t : Fin grid0.N, _)

/-- The query block of a grid point. -/
theorem coord_at : ∀ t : Fin cfg0.N, (grid0.coords t 1).val = t.val % 8 :=
  (by decide +kernel : ∀ t : Fin grid0.N, _)

/-- The queries. -/
abbrev argQ (c : Dev nD) : FVec Ideal S8192x2048 .f32 := m ((c : Thread nD τ).loc main_arg0)
/-- The keys. -/
abbrev argK (c : Dev nD) : FVec Ideal S8192x512 .f32 := m ((c : Thread nD τ).loc main_arg1)
/-- The values. -/
abbrev argV (c : Dev nD) : FVec Ideal S8192x512 .f32 := m ((c : Thread nD τ).loc main_arg2)
/-- The cumulated gates. -/
abbrev argC (c : Dev nD) : FVec Ideal S2x16x4096 .f32 := m ((c : Thread nD τ).loc main_arg3)

/-- The scaled queries, as the launch finds them. -/
theorem V_q (c : Dev nD) : (V m c main_v6 : FVec Ideal S8192x2048 .bf16) = truncf .bf16 (mulf (argQ m c)
      (broadcastInDim S8192x2048 ![] Gen.bcast_S_S8192x2048 (Host.divf (constant S_ .f32 0x3F800000#32)
        (mulf (Host.sqrt (constant S_ .f32 0x43000000#32)) (Host.log (constant S_ .f32 0x40000000#32)))))) Gen.bitsLt_bf16_f32 := by
  rfl

/-- The keys, as the launch finds them. -/
theorem V_k (c : Dev nD) : (V m c main_v7 : FVec Ideal S8192x512 .bf16) = truncf .bf16 (argK m c) Gen.bitsLt_bf16_f32 := by
  rfl

/-- The values, as the launch finds them. -/
theorem V_v (c : Dev nD) : (V m c main_v8 : FVec Ideal S8192x512 .bf16) = truncf .bf16 (argV m c) Gen.bitsLt_bf16_f32 := by
  rfl

/-- The scaled queries in a block. -/
theorem w0 (c : Dev nD) (t : Fin cfg0.N) (r : Fin 512) (x : Fin 2048) (R : Fin 8192) (hR : R.val = 512 * t.val + r.val) :
    (iblk m c 0 t : FVec Ideal S512x2048 .bf16) (ix2 r x) = argQ m c (ix2 R x) * ((scale : ℝ) : EReal) := by
  have h : ∀ p : S8192x2048.Idx, p = ix2 R x → (V m c main_v6 : FVec Ideal S8192x2048 .bf16) p = argQ m c (ix2 R x) * ((scale : ℝ) : EReal) := by
    rintro _ rfl
    rw [V_q]
    exact congrArg (argQ m c (ix2 R x) * ·) Cert.FoxRefIdeal.Attn.scale_real
  refine h ((win0_0.blk t).view.emb (ix2 r x)) ?_
  blk_ext [idx t]

/-- The keys in a block. -/
theorem w1 (c : Dev nD) (t : Fin cfg0.N) (s : Fin 4096) (x : Fin 512) (R : Fin 8192) (hR : R.val = 4096 * (t.val / 8) + s.val) :
    (iblk m c 1 t : FVec Ideal S4096x512 .bf16) (ix2 s x) = argK m c (ix2 R x) := by
  have h : ∀ p : S8192x512.Idx, p = ix2 R x → (V m c main_v7 : FVec Ideal S8192x512 .bf16) p = argK m c (ix2 R x) := by
    rintro _ rfl
    rw [V_k]; rfl
  refine h ((win0_1.blk t).view.emb (ix2 s x)) ?_
  blk_ext [idx t]

/-- The values in a block. -/
theorem w2 (c : Dev nD) (t : Fin cfg0.N) (s : Fin 4096) (x : Fin 512) (R : Fin 8192) (hR : R.val = 4096 * (t.val / 8) + s.val) :
    (iblk m c 2 t : FVec Ideal S4096x512 .bf16) (ix2 s x) = argV m c (ix2 R x) := by
  have h : ∀ p : S8192x512.Idx, p = ix2 R x → (V m c main_v8 : FVec Ideal S8192x512 .bf16) p = argV m c (ix2 R x) := by
    rintro _ rfl
    rw [V_v]; rfl
  refine h ((win0_2.blk t).view.emb (ix2 s x)) ?_
  blk_ext [idx t]

/-- The cumulated gates in a block. -/
theorem w3 (c : Dev nD) (t : Fin cfg0.N) (z : Fin 1) (j : Fin 16) (s : Fin 4096) (b : Fin 2) (hb : b.val = t.val / 8) :
    (iblk m c 3 t : FVec Ideal S1x16x4096 .f32) (ix3 z j s) = argC m c (ix3 b j s) := by
  have h : ∀ p : S2x16x4096.Idx, p = ix3 b j s → (V m c main_arg3 : FVec Ideal S2x16x4096 .f32) p = argC m c (ix3 b j s) := by
    rintro _ rfl
    rw [V_main_arg3]
  refine h ((win0_3.blk t).view.emb (ix3 z j s)) ?_
  blk_ext [idx t]

/-- An index of a block, as a query, a head and an element of it. -/
theorem split_idx (y : S512x2048.Idx) : ∃ (r : Fin 512) (j : Fin 16) (d : Fin 128), y = ix2 r (headIx j d) := by
  have h1 : (y 1).val < 2048 := (y 1).isLt
  refine ⟨y 0, ⟨(y 1).val / 128, by omega⟩, ⟨(y 1).val % 128, by omega⟩, funext fun a => Fin.ext ?_⟩
  fin_cases a
  · rfl
  · show (y 1).val = 128 * ((y 1).val / 128) + (y 1).val % 128; omega

/-- What a grid point stores is the reference's at the array index it sits at, for finite arguments. -/
theorem point (c : Dev nD) (Q : S8192x2048.Idx → ℝ) (K W : S8192x512.Idx → ℝ) (C : S2x16x4096.Idx → ℝ)
    (hq : ∀ y, argQ m c y = ((Q y : ℝ) : EReal)) (hk : ∀ y, argK m c y = ((K y : ℝ) : EReal))
    (hv : ∀ y, argV m c y = ((W y : ℝ) : EReal)) (hc : ∀ y, argC m c y = ((C y : ℝ) : EReal)) (t : Fin cfg0.N) (y : S512x2048.Idx) :
    outsAt0 m c t y = Cert.FoxRefIdeal.Attn.REF (argQ m c) (argK m c) (argV m c) (argC m c) (((cfg0.win 4).blk t).view.emb y) := by
  have ht : t.val < 16 := t.isLt
  have hco := coord_at t
  obtain ⟨r, j, d, rfl⟩ := split_idx y
  have he : ((cfg0.win 4).blk t).view.emb (ix2 r (headIx j d))
      = (ix2 ⟨4096 * (t.val / 8) + (512 * (t.val % 8) + r.val), by omega⟩ (headIx j d) : S8192x2048.Idx) := by
    blk_ext [idx t]
  rw [he]
  have h0 : ∀ z : S512x2048.Idx, (iblk m c 0 t : FVec Ideal S512x2048 .bf16) z
      = ((Q (ix2 ⟨4096 * (t.val / 8) + (512 * (t.val % 8) + (z 0).val), by have := (z 0).isLt; change _ < 512 at this; omega⟩ (z 1)) * scale : ℝ) : EReal) := by
    intro z
    rw [EReal.coe_mul, ← hq]
    refine (congrArg _ (show z = ix2 (z 0) (z 1) from ?_)).trans (w0 m c t (z 0) (z 1) _ ?_)
    · funext a; fin_cases a <;> rfl
    · show 4096 * (t.val / 8) + (512 * (t.val % 8) + (z 0).val) = 512 * t.val + (z 0).val; omega
  have h1 : ∀ z : S4096x512.Idx, (iblk m c 1 t : FVec Ideal S4096x512 .bf16) z
      = ((K (ix2 ⟨4096 * (t.val / 8) + (z 0).val, by have := (z 0).isLt; change _ < 4096 at this; omega⟩ (z 1)) : ℝ) : EReal) := by
    intro z
    rw [← hk]
    refine (congrArg _ (show z = ix2 (z 0) (z 1) from ?_)).trans (w1 m c t (z 0) (z 1) _ rfl)
    funext a; fin_cases a <;> rfl
  have h2 : ∀ z : S4096x512.Idx, (iblk m c 2 t : FVec Ideal S4096x512 .bf16) z
      = ((W (ix2 ⟨4096 * (t.val / 8) + (z 0).val, by have := (z 0).isLt; change _ < 4096 at this; omega⟩ (z 1)) : ℝ) : EReal) := by
    intro z
    rw [← hv]
    refine (congrArg _ (show z = ix2 (z 0) (z 1) from ?_)).trans (w2 m c t (z 0) (z 1) _ rfl)
    funext a; fin_cases a <;> rfl
  have h3 : ∀ z : S1x16x4096.Idx, (iblk m c 3 t : FVec Ideal S1x16x4096 .f32) z
      = ((C (ix3 ⟨t.val / 8, by omega⟩ (z 1) (z 2)) : ℝ) : EReal) := by
    intro z
    rw [← hc]
    refine (congrArg _ (show z = ix3 (z 0) (z 1) (z 2) from ?_)).trans (w3 m c t (z 0) (z 1) (z 2) _ rfl)
    funext a; fin_cases a <;> rfl
  refine (out_value c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) _ _ _ _ h0 h1 h2 h3 j r d).trans ?_
  rw [hco]
  exact (Cert.FoxRefIdeal.Attn.ref_value _ _ _ _ Q K W C hq hk hv hc _ _ _ _ ⟨t.val / 8, by omega⟩ (t.val % 8) (by omega)
    (fun _ _ => rfl) (fun _ _ => rfl) (fun _ _ => rfl) (fun _ _ => rfl) j r d).symm

/-- The result array after the run is the reference's term, for finite arguments. -/
theorem final (c : Dev nD) (Q : S8192x2048.Idx → ℝ) (K W : S8192x512.Idx → ℝ) (C : S2x16x4096.Idx → ℝ)
    (hq : ∀ y, argQ m c y = ((Q y : ℝ) : EReal)) (hk : ∀ y, argK m c y = ((K y : ℝ) : EReal))
    (hv : ∀ y, argV m c y = ((W y : ℝ) : EReal)) (hc : ∀ y, argC m c y = ((C y : ℝ) : EReal)) :
    (dats m 0 c).arrAt 4 (cfgs 0).N = Cert.FoxRefIdeal.Attn.REF (argQ m c) (argK m c) (argV m c) (argC m c) := by
  refine (dats m 0 c).arrAt_eq_of_covers 4 _ (by decide +kernel) fun t _ y => ?_
  blk_simp
  rw [after0_4]
  exact point m c Q K W C hq hk hv hc t y

end Cert.FoxIdeal.Flash

end
-- ==== Proof.FoxSame.lean ====
module

public import proofs.«01_k».proof.Proof.FoxFinal
public import Idealize.ShloMosaic.Adequacy
public import Idealize.ShloMosaic.Init

@[expose] public section

set_option maxRecDepth 16384

/-!
# The attention: kernel and reference end with the same result, for finite arguments
-/

noncomputable section

namespace Cert.Proof

open Idealize.ShloMosaic Idealize.ShloMosaic.TcCoe Idealize.SL.Sem

/-- The shape relations the precondition states. -/
instance finite_facts : Cert.Pre_finite.Facts where
  bcast_S_S8192x2048 := by decide
  reducesTo_S8192x2048_S_d0_1 := by decide
  h_S_ := by decide
  bcast_S_S8192x512 := by decide
  reducesTo_S8192x512_S_d0_1 := by decide
  bcast_S_S2x16x4096 := by decide
  reducesTo_S2x16x4096_S_d0_1_2 := by decide

/-- An element below the infinity in absolute value is a real number. -/
theorem real_of_lt (x : EReal) (h : FloatOps.cmpf (F := Ideal) (φ := .f32) .olt (FloatOps.absf (F := Ideal) (φ := .f32) x) (Ideal.ofBits .f32 0x7F800000#32) = 1#1) :
    x = ((x.toReal : ℝ) : EReal) := by
  have hi : Ideal.ofBits .f32 0x7F800000#32 = (⊤ : EReal) := by simp [Ideal.ofBits, Ideal.ieee]
  rw [hi] at h
  induction x using EReal.rec with
  | coe x => rw [EReal.toReal_coe]
  | bot => exact absurd h (by simp [FloatOps.cmpf, FloatOps.absf, Ideal.cmp])
  | top => exact absurd h (by simp [FloatOps.cmpf, FloatOps.absf, Ideal.cmp])

/-- The conjunction of two bits is one exactly when both are. -/
theorem both_one (a b : BitVec 1) (h : IntOp.andi a b = 1#1) : a = 1#1 ∧ b = 1#1 := by
  revert h
  revert a b
  decide

/-- Finite arguments are real numbers. -/
theorem finite_real (q : FVec Ideal Cert.Pre_finite.S8192x2048 .f32) (k v : FVec Ideal Cert.Pre_finite.S8192x512 .f32) (cum : FVec Ideal Cert.Pre_finite.S2x16x4096 .f32)
    (h : Cert.Pre_finite.fn (F := Ideal) q k v cum = fun _ => 1#1) :
    (∀ y, q y = (((q y : EReal).toReal : ℝ) : EReal)) ∧ (∀ y, k y = (((k y : EReal).toReal : ℝ) : EReal))
      ∧ (∀ y, v y = (((v y : EReal).toReal : ℝ) : EReal)) ∧ (∀ y, cum y = (((cum y : EReal).toReal : ℝ) : EReal)) := by
  have sub : Subsingleton Cert.Pre_finite.S_.Idx := ⟨fun a b => funext fun x => x.elim0⟩
  have e := congrFun h ix0
  obtain ⟨e, ec⟩ := both_one _ _ e
  obtain ⟨e, ev⟩ := both_one _ _ e
  obtain ⟨eq, ek⟩ := both_one _ _ e
  exact ⟨fun y => real_of_lt _ (Host.reduce_andi_all _ _ _ _ ix0 eq y), fun y => real_of_lt _ (Host.reduce_andi_all _ _ _ _ ix0 ek y),
    fun y => real_of_lt _ (Host.reduce_andi_all _ _ _ _ ix0 ev y), fun y => real_of_lt _ (Host.reduce_andi_all _ _ _ _ ix0 ec y)⟩

set_option maxHeartbeats 1600000 in
/-- The attention, for finite arguments: kernel and reference end with the same result. -/
theorem fox_same : Cert.algebraic_FoxIdeal_FoxRefIdeal_pre_finite := by
  pair_intro
  · run_from Cert.FoxIdeal.Gen.run_main m g
  · run_from Cert.FoxRefIdeal.Value.run m' g'
    obtain ⟨h0, h1, h2, h3⟩ := hagree c
    obtain ⟨fq, fk, fv, fc⟩ := finite_real _ _ _ _ (hpre c)
    rw [Cert.FoxIdeal.Flash.final m c _ _ _ _ fq fk fv fc, Cert.FoxRefIdeal.Attn.result, h0, h1, h2, h3]

end Cert.Proof

end
-- ==== Proof.lean ====
module

public import proofs.«01_k».proof.Defs
public import proofs.«01_k».proof.Proof.Gen.Fox
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.FoxIdeal.Value
public import proofs.«01_k».proof.Proof.Gen.DownIdeal.Value
public import proofs.«01_k».proof.Proof.Gen.OutIdeal.Value
public import proofs.«01_k».proof.Proof.Gen.FoxRefIdeal.Run
public import proofs.«01_k».proof.Proof.Gen.DownRefIdeal.Run
public import proofs.«01_k».proof.Proof.Gen.OutRefIdeal.Run
public import proofs.«01_k».proof.Proof.Gen.UpRefIdeal.Run
public import proofs.«01_k».proof.Proof.Claims
public import proofs.«01_k».proof.Proof.FoxSame
public import Idealize.ShloMosaic.Adequacy
public import Idealize.ShloMosaic.Init

@[expose] public section

noncomputable section

namespace Cert.Proof

open Idealize.ShloMosaic Idealize.SL.Sem Cert.Fox

/-- The attention's reference runs, keeps its arguments and ends with every counter at zero. -/
theorem fox_ref_frame : Cert.quiescent_FoxRefIdeal := fun m g _ =>
  (θ_run (Cert.FoxRefIdeal.defs (F := Ideal)) _ _).mono
    (fun r h => ⟨fun c => (h c).2, sem_eq_zero_of_no_sems (by decide) r.2⟩) (Cert.FoxRefIdeal.Value.run m g)

/-- The down projection's reference runs, keeps its arguments and ends with every counter at zero. -/
theorem down_ref_frame : Cert.quiescent_DownRefIdeal := fun m g _ =>
  (θ_run (Cert.DownRefIdeal.defs (F := Ideal)) _ _).mono
    (fun r h => ⟨fun c => (h c).2, sem_eq_zero_of_no_sems (by decide) r.2⟩) (Cert.DownRefIdeal.Value.run m g)

/-- The output projection's reference runs, keeps its arguments and ends with every counter at zero. -/
theorem out_ref_frame : Cert.quiescent_OutRefIdeal := fun m g _ =>
  (θ_run (Cert.OutRefIdeal.defs (F := Ideal)) _ _).mono
    (fun r h => ⟨fun c => (h c).2, sem_eq_zero_of_no_sems (by decide) r.2⟩) (Cert.OutRefIdeal.Value.run m g)

/-- The up projections' reference runs, keeps its arguments and ends with every counter at zero. -/
theorem up_ref_frame : Cert.quiescent_UpRefIdeal := fun m g _ =>
  (θ_run (Cert.UpRefIdeal.defs (F := Ideal)) _ _).mono
    (fun r h => ⟨fun c => (h c).2.2.2, sem_eq_zero_of_no_sems (by decide) r.2⟩) (Cert.UpRefIdeal.Value.run m g)

/-- The named constants of the attention are the table's values at the exact reading. -/
theorem fox_named : Cert.preserves_Fox_FoxIdeal :=
  ⟨IdealRules.named_const.statement _ _ _ _ _ rfl, IdealRules.named_const.statement _ _ _ _ _ rfl⟩

/-- Every claim of the certificate. -/
theorem claim : Cert.Claim := ⟨Cert.Fox.Gen.facts, Cert.FoxIdeal.Gen.facts, Cert.FoxRefIdeal.Gen.facts, Cert.Down.Gen.facts, Cert.DownIdeal.Gen.facts, Cert.DownRefIdeal.Gen.facts, Cert.Out.Gen.facts, Cert.OutIdeal.Gen.facts, Cert.OutRefIdeal.Gen.facts, Cert.Up.Gen.facts, Cert.UpIdeal.Gen.facts, Cert.UpRefIdeal.Gen.facts, finite_facts,
  fun m ρ _ => Cert.Fox.Gen.frame m ρ, fun m ρ _ => Cert.FoxIdeal.Gen.frame m ρ, fun m ρ _ => Cert.FoxIdeal.Gen.frame m ρ, fox_ref_frame, fun m g _ => fox_ref_frame m g trivial,
  fun m ρ _ => Cert.Down.Gen.frame m ρ, fun m ρ _ => Cert.DownIdeal.Gen.frame m ρ, down_ref_frame,
  fun m ρ _ => Cert.Out.Gen.frame m ρ, fun m ρ _ => Cert.OutIdeal.Gen.frame m ρ, out_ref_frame,
  fun m ρ _ => Cert.Up.Gen.frame m ρ, fun m ρ _ => Cert.UpIdeal.Gen.frame m ρ, up_ref_frame,
  fox_named, fox_same, trivial, down_same, trivial, out_same, trivial, up_same⟩

end Cert.Proof

end
